-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Threshold (m : (ℓ : Loc Cert.Threshold.nD Cert.Threshold.τ Cert.Threshold.sig) → Buf (Elt Bits) ℓ) : Prop :=
  True

def Pre_ThresholdReference (m : (ℓ : Loc Cert.ThresholdReference.nD Cert.ThresholdReference.τ Cert.ThresholdReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Threshold [hThreshold : Cert.Threshold.Facts] : Prop :=
  ∀ (m : (ℓ : Loc Cert.Threshold.nD Cert.Threshold.τ Cert.Threshold.sig) → Buf (Elt Bits) ℓ) (g : Dev Cert.Threshold.nD → PrngReg), Pre_Threshold m →
    θ_run (Cert.Threshold.defs (F := Bits)) (onTc (τ := Cert.Threshold.τ) (Cert.Threshold.main (F := Bits))) ⟨m, fun _ => 0, g⟩ (fun r => (∀ c : Dev Cert.Threshold.nD,
      r.2.mem ((c.tc : Thread Cert.Threshold.nD Cert.Threshold.τ).loc Cert.Threshold.main_arg0) = m ((c.tc : Thread Cert.Threshold.nD Cert.Threshold.τ).loc Cert.Threshold.main_arg0))
      ∧ r.2.sem = fun _ => 0)

def quiescent_ThresholdReference [hThresholdReference : Cert.ThresholdReference.Facts] : Prop :=
  ∀ (m : (ℓ : Loc Cert.ThresholdReference.nD Cert.ThresholdReference.τ Cert.ThresholdReference.sig) → Buf (Elt Bits) ℓ) (g : Dev Cert.ThresholdReference.nD → PrngReg), Pre_ThresholdReference m →
    θ_run (Cert.ThresholdReference.defs (F := Bits)) (onTc (τ := Cert.ThresholdReference.τ) (Cert.ThresholdReference.main (F := Bits))) ⟨m, fun _ => 0, g⟩ (fun r => (∀ c : Dev Cert.ThresholdReference.nD,
      r.2.mem ((c.tc : Thread Cert.ThresholdReference.nD Cert.ThresholdReference.τ).loc Cert.ThresholdReference.main_arg0) = m ((c.tc : Thread Cert.ThresholdReference.nD Cert.ThresholdReference.τ).loc Cert.ThresholdReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def bitexact_Threshold_ThresholdReference [hThreshold : Cert.Threshold.Facts] [hThresholdReference : Cert.ThresholdReference.Facts] : Prop :=
  ∀ (m : (ℓ : Loc Cert.Threshold.nD Cert.Threshold.τ Cert.Threshold.sig) → Buf (Elt Bits) ℓ) (g : Dev Cert.Threshold.nD → PrngReg)
    (m' : (ℓ : Loc Cert.ThresholdReference.nD Cert.ThresholdReference.τ Cert.ThresholdReference.sig) → Buf (Elt Bits) ℓ) (g' : Dev Cert.ThresholdReference.nD → PrngReg), Pre_Threshold m →
    (∀ c : Dev Cert.Threshold.nD,
      m' ((c.tc : Thread Cert.ThresholdReference.nD Cert.ThresholdReference.τ).loc Cert.ThresholdReference.main_arg0) = m ((c.tc : Thread Cert.Threshold.nD Cert.Threshold.τ).loc Cert.Threshold.main_arg0)) →
    ∃ (v0 : (c : Dev Cert.Threshold.nD) → Buf (Elt Bits) ((c.tc : Thread Cert.Threshold.nD Cert.Threshold.τ).loc Cert.Threshold.main_v1)),
      θ_run (Cert.Threshold.defs (F := Bits)) (onTc (τ := Cert.Threshold.τ) (Cert.Threshold.main (F := Bits))) ⟨m, fun _ => 0, g⟩ (fun r => ∀ c : Dev Cert.Threshold.nD,
          r.2.mem ((c.tc : Thread Cert.Threshold.nD Cert.Threshold.τ).loc Cert.Threshold.main_v1) = v0 c
          ∧ r.2.mem ((c.tc : Thread Cert.Threshold.nD Cert.Threshold.τ).loc Cert.Threshold.main_arg0) = m ((c.tc : Thread Cert.Threshold.nD Cert.Threshold.τ).loc Cert.Threshold.main_arg0))
      ∧ θ_run (Cert.ThresholdReference.defs (F := Bits)) (onTc (τ := Cert.ThresholdReference.τ) (Cert.ThresholdReference.main (F := Bits))) ⟨m', fun _ => 0, g'⟩ (fun r => ∀ c : Dev Cert.ThresholdReference.nD,
          r.2.mem ((c.tc : Thread Cert.ThresholdReference.nD Cert.ThresholdReference.τ).loc Cert.ThresholdReference.main_v2) = v0 c
          ∧ r.2.mem ((c.tc : Thread Cert.ThresholdReference.nD Cert.ThresholdReference.τ).loc Cert.ThresholdReference.main_arg0) = m' ((c.tc : Thread Cert.ThresholdReference.nD Cert.ThresholdReference.τ).loc Cert.ThresholdReference.main_arg0))

def Claim : Prop :=
  ∃ (hKernel : Cert.Kernel.Facts) (hKernelIdeal : Cert.KernelIdeal.Facts) (hReferenceIdeal : Cert.ReferenceIdeal.Facts) (hThreshold : Cert.Threshold.Facts) (hThresholdReference : Cert.ThresholdReference.Facts),
    quiescent_Kernel (hKernel := hKernel)
    ∧ quiescent_KernelIdeal (hKernelIdeal := hKernelIdeal)
    ∧ quiescent_ReferenceIdeal (hReferenceIdeal := hReferenceIdeal)
    ∧ quiescent_Threshold (hThreshold := hThreshold)
    ∧ quiescent_ThresholdReference (hThresholdReference := hThresholdReference)
    ∧ preserves_Kernel_KernelIdeal
    ∧ algebraic_KernelIdeal_ReferenceIdeal (hKernelIdeal := hKernelIdeal) (hReferenceIdeal := hReferenceIdeal)
    ∧ bitexact_Threshold_ThresholdReference (hThreshold := hThreshold) (hThresholdReference := hThresholdReference)
-- ==== Kernel.lean ====
abbrev S64x1x64x128 : Shape := ⟨4, ![64, 1, 64, 128]⟩
abbrev S64x1x16x128 : Shape := ⟨4, ![64, 1, 16, 128]⟩
abbrev S64x16x192x128 : Shape := ⟨4, ![64, 16, 192, 128]⟩
abbrev S64x16x192 : Shape := ⟨3, ![64, 16, 192]⟩
abbrev S4096x128 : Shape := ⟨2, ![4096, 128]⟩
abbrev S1024x128 : Shape := ⟨2, ![1024, 128]⟩
abbrev S1024x192x128 : Shape := ⟨3, ![1024, 192, 128]⟩
abbrev S1024x192 : Shape := ⟨2, ![1024, 192]⟩
abbrev S64x128 : Shape := ⟨2, ![64, 128]⟩
abbrev S16x128 : Shape := ⟨2, ![16, 128]⟩
abbrev S16x192x128 : Shape := ⟨3, ![16, 192, 128]⟩
abbrev S16x192 : Shape := ⟨2, ![16, 192]⟩
abbrev S16x1 : Shape := ⟨2, ![16, 1]⟩
abbrev S16x208 : Shape := ⟨2, ![16, 208]⟩
abbrev S1x16 : Shape := ⟨2, ![1, 16]⟩
abbrev S16x512 : Shape := ⟨2, ![16, 512]⟩
abbrev S1x128 : Shape := ⟨2, ![1, 128]⟩
abbrev S1x192x128 : Shape := ⟨3, ![1, 192, 128]⟩
abbrev S192x128 : Shape := ⟨2, ![192, 128]⟩
abbrev S208x128 : Shape := ⟨2, ![208, 128]⟩
abbrev S1x192 : Shape := ⟨2, ![1, 192]⟩
abbrev S1x208 : Shape := ⟨2, ![1, 208]⟩
abbrev S4x208 : Shape := ⟨2, ![4, 208]⟩
abbrev S208x512 : Shape := ⟨2, ![208, 512]⟩
abbrev S16 : Shape := ⟨1, ![16]⟩
abbrev S4x192 : Shape := ⟨2, ![4, 192]⟩
abbrev S192 : Shape := ⟨1, ![192]⟩

abbrev nBuf : Space → Nat
  | .hbm => 18
  | .vmem => 20
  | .smem => 0
  | _ => 0

abbrev bufTy : (tb : Table) → Fin (tcTables nBuf tb) → BufTy
  | .hbm, ⟨0, _⟩ => ⟨S64x1x64x128, .bf16⟩
  | .hbm, ⟨1, _⟩ => ⟨S64x1x16x128, .bf16⟩
  | .hbm, ⟨2, _⟩ => ⟨S64x1x16x128, .bf16⟩
  | .hbm, ⟨3, _⟩ => ⟨S64x16x192x128, .i8⟩
  | .hbm, ⟨4, _⟩ => ⟨S64x16x192, .f32⟩
  | .hbm, ⟨5, _⟩ => ⟨S64x16x192x128, .i8⟩
  | .hbm, ⟨6, _⟩ => ⟨S64x16x192, .f32⟩
  | .hbm, ⟨7, _⟩ => ⟨S64x16x192, .f32⟩
  | .hbm, ⟨8, _⟩ => ⟨S4096x128, .bf16⟩
  | .hbm, ⟨9, _⟩ => ⟨S1024x128, .bf16⟩
  | .hbm, ⟨10, _⟩ => ⟨S1024x128, .bf16⟩
  | .hbm, ⟨11, _⟩ => ⟨S1024x192x128, .i8⟩
  | .hbm, ⟨12, _⟩ => ⟨S1024x192, .f32⟩
  | .hbm, ⟨13, _⟩ => ⟨S1024x192x128, .i8⟩
  | .hbm, ⟨14, _⟩ => ⟨S1024x192, .f32⟩
  | .hbm, ⟨15, _⟩ => ⟨S1024x192, .f32⟩
  | .hbm, ⟨16, _⟩ => ⟨S4096x128, .bf16⟩
  | .hbm, ⟨17, _⟩ => ⟨S1024x192, .f32⟩
  | .local _ .vmem, ⟨0, _⟩ => ⟨S64x128, .bf16⟩
  | .local _ .vmem, ⟨1, _⟩ => ⟨S64x128, .bf16⟩
  | .local _ .vmem, ⟨2, _⟩ => ⟨S16x128, .bf16⟩
  | .local _ .vmem, ⟨3, _⟩ => ⟨S16x128, .bf16⟩
  | .local _ .vmem, ⟨4, _⟩ => ⟨S16x128, .bf16⟩
  | .local _ .vmem, ⟨5, _⟩ => ⟨S16x128, .bf16⟩
  | .local _ .vmem, ⟨6, _⟩ => ⟨S16x192x128, .i8⟩
  | .local _ .vmem, ⟨7, _⟩ => ⟨S16x192x128, .i8⟩
  | .local _ .vmem, ⟨8, _⟩ => ⟨S16x192, .f32⟩
  | .local _ .vmem, ⟨9, _⟩ => ⟨S16x192, .f32⟩
  | .local _ .vmem, ⟨10, _⟩ => ⟨S16x192x128, .i8⟩
  | .local _ .vmem, ⟨11, _⟩ => ⟨S16x192x128, .i8⟩
  | .local _ .vmem, ⟨12, _⟩ => ⟨S16x192, .f32⟩
  | .local _ .vmem, ⟨13, _⟩ => ⟨S16x192, .f32⟩
  | .local _ .vmem, ⟨14, _⟩ => ⟨S16x192, .f32⟩
  | .local _ .vmem, ⟨15, _⟩ => ⟨S16x192, .f32⟩
  | .local _ .vmem, ⟨16, _⟩ => ⟨S64x128, .bf16⟩
  | .local _ .vmem, ⟨17, _⟩ => ⟨S64x128, .bf16⟩
  | .local _ .vmem, ⟨18, _⟩ => ⟨S16x192, .f32⟩
  | .local _ .vmem, ⟨19, _⟩ => ⟨S16x192, .f32⟩
  | _, _ => ⟨S64x1x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x192x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x192x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S64x1x64x128 : Shape := ⟨4, ![64, 1, 64, 128]⟩
abbrev S64x1x16x128 : Shape := ⟨4, ![64, 1, 16, 128]⟩
abbrev S64x16x192x128 : Shape := ⟨4, ![64, 16, 192, 128]⟩
abbrev S64x16x192 : Shape := ⟨3, ![64, 16, 192]⟩
abbrev S64x1x16x4x128 : Shape := ⟨5, ![64, 1, 16, 4, 128]⟩
abbrev S64x16x192x1x4 : Shape := ⟨5, ![64, 16, 192, 1, 4]⟩
abbrev S64x16x4x1x192 : Shape := ⟨5, ![64, 16, 4, 1, 192]⟩
abbrev S64x16x1x1x192 : Shape := ⟨5, ![64, 16, 1, 1, 192]⟩
abbrev S_ : Shape := ⟨0, ![]⟩
abbrev S64x16x1x1x4 : Shape := ⟨5, ![64, 16, 1, 1, 4]⟩
abbrev S64x16x4x1x1 : Shape := ⟨5, ![64, 16, 4, 1, 1]⟩
abbrev S1 : Shape := ⟨1, ![1]⟩
abbrev S1x1 : Shape := ⟨2, ![1, 1]⟩
abbrev S64x16x4x1x193 : Shape := ⟨5, ![64, 16, 4, 1, 193]⟩
abbrev S64x16x4x1 : Shape := ⟨4, ![64, 16, 4, 1]⟩
abbrev S64x16x128x4x1 : Shape := ⟨5, ![64, 16, 128, 4, 1]⟩
abbrev S4096x128 : Shape := ⟨2, ![4096, 128]⟩
abbrev S1024x192 : Shape := ⟨2, ![1024, 192]⟩

abbrev nBuf : Space → Nat
  | .hbm => 69
  | .vmem => 0
  | .smem => 0
  | _ => 0

abbrev bufTy : (tb : Table) → Fin (tcTables nBuf tb) → BufTy
  | .hbm, ⟨0, _⟩ => ⟨S64x1x64x128, .bf16⟩
  | .hbm, ⟨1, _⟩ => ⟨S64x1x16x128, .bf16⟩
  | .hbm, ⟨2, _⟩ => ⟨S64x1x16x128, .bf16⟩
  | .hbm, ⟨3, _⟩ => ⟨S64x16x192x128, .i8⟩
  | .hbm, ⟨4, _⟩ => ⟨S64x16x192, .f32⟩
  | .hbm, ⟨5, _⟩ => ⟨S64x16x192x128, .i8⟩
  | .hbm, ⟨6, _⟩ => ⟨S64x16x192, .f32⟩
  | .hbm, ⟨7, _⟩ => ⟨S64x16x192, .f32⟩
  | .hbm, ⟨8, _⟩ => ⟨S64x1x16x4x128, .bf16⟩
  | .hbm, ⟨9, _⟩ => ⟨S64x16x192x128, .i32⟩
  | .hbm, ⟨10, _⟩ => ⟨S64x16x192x128, .bf16⟩
  | .hbm, ⟨11, _⟩ => ⟨S64x16x192x1x4, .f32⟩
  | .hbm, ⟨12, _⟩ => ⟨S64x16x4x1x192, .f32⟩
  | .hbm, ⟨13, _⟩ => ⟨S64x16x1x1x192, .f32⟩
  | .hbm, ⟨14, _⟩ => ⟨S64x16x4x1x192, .f32⟩
  | .hbm, ⟨15, _⟩ => ⟨S64x16x4x1x192, .f32⟩
  | .hbm, ⟨16, _⟩ => ⟨S_, .f32⟩
  | .hbm, ⟨17, _⟩ => ⟨S64x16x4x1x192, .f32⟩
  | .hbm, ⟨18, _⟩ => ⟨S64x16x4x1x192, .f32⟩
  | .hbm, ⟨19, _⟩ => ⟨S64x16x1x1x4, .f32⟩
  | .hbm, ⟨20, _⟩ => ⟨S64x16x4x1x1, .f32⟩
  | .hbm, ⟨21, _⟩ => ⟨S_, .f32⟩
  | .hbm, ⟨22, _⟩ => ⟨S64x16x4x1x1, .f32⟩
  | .hbm, ⟨23, _⟩ => ⟨S64x16x4x1x1, .f32⟩
  | .hbm, ⟨24, _⟩ => ⟨S1, .i32⟩
  | .hbm, ⟨25, _⟩ => ⟨S1x1, .i32⟩
  | .hbm, ⟨26, _⟩ => ⟨S1, .i32⟩
  | .hbm, ⟨27, _⟩ => ⟨S1x1, .i32⟩
  | .hbm, ⟨28, _⟩ => ⟨S1x1, .i1⟩
  | .hbm, ⟨29, _⟩ => ⟨S_, .f32⟩
  | .hbm, ⟨30, _⟩ => ⟨S_, .f32⟩
  | .hbm, ⟨31, _⟩ => ⟨S64x16x4x1x1, .i1⟩
  | .hbm, ⟨32, _⟩ => ⟨S64x16x4x1x1, .f32⟩
  | .hbm, ⟨33, _⟩ => ⟨S64x16x4x1x1, .f32⟩
  | .hbm, ⟨34, _⟩ => ⟨S64x16x4x1x193, .f32⟩
  | .hbm, ⟨35, _⟩ => ⟨S_, .f32⟩
  | .hbm, ⟨36, _⟩ => ⟨S64x16x4x1, .f32⟩
  | .hbm, ⟨37, _⟩ => ⟨S_, .f32⟩
  | .hbm, ⟨38, _⟩ => ⟨S64x16x4x1, .f32⟩
  | .hbm, ⟨39, _⟩ => ⟨S64x16x4x1, .f32⟩
  | .hbm, ⟨40, _⟩ => ⟨S64x16x4x1x1, .f32⟩
  | .hbm, ⟨41, _⟩ => ⟨S64x16x4x1x193, .f32⟩
  | .hbm, ⟨42, _⟩ => ⟨S64x16x4x1x193, .f32⟩
  | .hbm, ⟨43, _⟩ => ⟨S64x16x4x1x193, .f32⟩
  | .hbm, ⟨44, _⟩ => ⟨S_, .f32⟩
  | .hbm, ⟨45, _⟩ => ⟨S64x16x4x1, .f32⟩
  | .hbm, ⟨46, _⟩ => ⟨S64x16x4x1x1, .f32⟩
  | .hbm, ⟨47, _⟩ => ⟨S64x16x4x1x193, .f32⟩
  | .hbm, ⟨48, _⟩ => ⟨S64x16x4x1x193, .f32⟩
  | .hbm, ⟨49, _⟩ => ⟨S64x16x4x1x192, .f32⟩
  | .hbm, ⟨50, _⟩ => ⟨S64x16x4x1x1, .f32⟩
  | .hbm, ⟨51, _⟩ => ⟨S64x16x1x1x192, .f32⟩
  | .hbm, ⟨52, _⟩ => ⟨S64x16x4x1x192, .f32⟩
  | .hbm, ⟨53, _⟩ => ⟨S64x16x4x1x192, .f32⟩
  | .hbm, ⟨54, _⟩ => ⟨S64x16x4x1x192, .bf16⟩
  | .hbm, ⟨55, _⟩ => ⟨S64x16x192x128, .i32⟩
  | .hbm, ⟨56, _⟩ => ⟨S64x16x192x128, .bf16⟩
  | .hbm, ⟨57, _⟩ => ⟨S64x16x128x4x1, .f32⟩
  | .hbm, ⟨58, _⟩ => ⟨S64x1x16x4x128, .f32⟩
  | .hbm, ⟨59, _⟩ => ⟨S64x16x4x1x1, .bf16⟩
  | .hbm, ⟨60, _⟩ => ⟨S64x16x128x4x1, .f32⟩
  | .hbm, ⟨61, _⟩ => ⟨S64x1x16x4x128, .f32⟩
  | .hbm, ⟨62, _⟩ => ⟨S64x1x16x4x128, .f32⟩
  | .hbm, ⟨63, _⟩ => ⟨S4096x128, .f32⟩
  | .hbm, ⟨64, _⟩ => ⟨S4096x128, .bf16⟩
  | .hbm, ⟨65, _⟩ => ⟨S_, .f32⟩
  | .hbm, ⟨66, _⟩ => ⟨S64x16x192, .f32⟩
  | .hbm, ⟨67, _⟩ => ⟨S64x16x192, .f32⟩
  | .hbm, ⟨68, _⟩ => ⟨S1024x192, .f32⟩
  | _, _ => ⟨S64x1x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Threshold.lean ====
abbrev S64x16x2048 : Shape := ⟨3, ![64, 16, 2048]⟩
abbrev S1024x2048 : Shape := ⟨2, ![1024, 2048]⟩
abbrev S1024x128 : Shape := ⟨2, ![1024, 128]⟩
abbrev S64x2048 : Shape := ⟨2, ![64, 2048]⟩
abbrev S64x128 : Shape := ⟨2, ![64, 128]⟩
abbrev S64x1 : Shape := ⟨2, ![64, 1]⟩
abbrev S64 : Shape := ⟨1, ![64]⟩

abbrev nBuf : Space → Nat
  | .hbm => 3
  | .vmem => 4
  | .smem => 0
  | _ => 0

abbrev bufTy : (tb : Table) → Fin (tcTables nBuf tb) → BufTy
  | .hbm, ⟨0, _⟩ => ⟨S64x16x2048, .f32⟩
  | .hbm, ⟨1, _⟩ => ⟨S1024x2048, .f32⟩
  | .hbm, ⟨2, _⟩ => ⟨S1024x128, .f32⟩
  | .local _ .vmem, ⟨0, _⟩ => ⟨S64x2048, .f32⟩
  | .local _ .vmem, ⟨1, _⟩ => ⟨S64x2048, .f32⟩
  | .local _ .vmem, ⟨2, _⟩ => ⟨S64x128, .f32⟩
  | .local _ .vmem, ⟨3, _⟩ => ⟨S64x128, .f32⟩
  | _, _ => ⟨S64x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32_5 : BitVec 32 := 0#32
  let c31_i32 : BitVec 32 := 31#32
  let v20 : BitVec 32 := Scalar.addi c0_i32_5 c31_i32
  let c1_i32 : BitVec 32 := 1#32
  ⟨c0_i32_5, v20, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ThresholdReference.lean ====
abbrev S64x16x2048 : Shape := ⟨3, ![64, 16, 2048]⟩
abbrev S64x16x192 : Shape := ⟨3, ![64, 16, 192]⟩
abbrev S64x16x1 : Shape := ⟨3, ![64, 16, 1]⟩
abbrev S1024x1 : Shape := ⟨2, ![1024, 1]⟩
abbrev S1024x128 : Shape := ⟨2, ![1024, 128]⟩

abbrev nBuf : Space → Nat
  | .hbm => 6
  | .vmem => 0
  | .smem => 0
  | _ => 0

abbrev bufTy : (tb : Table) → Fin (tcTables nBuf tb) → BufTy
  | .hbm, ⟨0, _⟩ => ⟨S64x16x2048, .f32⟩
  | .hbm, ⟨1, _⟩ => ⟨S64x16x192, .f32⟩
  | .hbm, ⟨2, _⟩ => ⟨S64x16x192, .i32⟩
  | .hbm, ⟨3, _⟩ => ⟨S64x16x1, .f32⟩
  | .hbm, ⟨4, _⟩ => ⟨S1024x1, .f32⟩
  | .hbm, ⟨5, _⟩ => ⟨S1024x128, .f32⟩
  | _, _ => ⟨S64x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Quad.lean ====
/- What one group of four key-value heads computes, as one definition, and that the kernel's two stored
   blocks are that definition at each of the four groups. -/
module

public import proofs.«01_k».proof.Proof.Gen.KernelIdeal.Frame

@[expose] public section

noncomputable section

namespace Cert.KernelIdeal.Quad

open Idealize.ShloMosaic Idealize.SL.Sem
open Cert.KernelIdeal Cert.KernelIdeal.Gen

variable {F : FTy → Type} [FloatOps F]

/-- One head's 208 token rows: its 192 kept codes, then the new token's row, then fifteen rows of zeros. -/
def tile (n : Vec F S1x128 .bf16) (k : Vec F S1x192x128 .i8) : FVec F S208x128 .bf16 :=
  k0_pay12 k0_pay5 n k

/-- One head's 208 scales: its 192 kept scales, then ones; the same in each of the head's four query rows. -/
def scales (s : Vec F S1x192 .f32) : FVec F S4x208 .f32 :=
  k0_pay14 k0_pay6 s

/-- The sixteen query rows spread over four column blocks: row `r` is kept in block `r / 4` and is zero in the
    others. -/
def spread (q : Vec F S16x128 .bf16) : FVec F S16x512 .bf16 :=
  k0_pay37 k0_pay1 k0_pay2 k0_pay3 k0_pay4 q

/-- The column number of each score. -/
def column : IVec S16x208 32 := iota .tc S16x208 32 [1] iota_S16x208_d1_w32

/-- The four heads' attention probabilities, one row of 208 per query row. -/
def probs (q : Vec F S16x128 .bf16) (n0 n1 n2 n3 : Vec F S1x128 .bf16) (k0 k1 k2 k3 : Vec F S1x192x128 .i8)
    (s0 s1 s2 s3 : Vec F S1x192 .f32) : FVec F S16x208 .f32 :=
  k0_pay59 column (spread q) (tile n0 k0) (scales s0) (tile n1 k1) (scales s1) (tile n2 k2) (scales s2)
    (tile n3 k3) (scales s3)

/-- The probabilities times the value scales, contracted with the four heads' value rows side by side. -/
def product (p : FVec F S16x208 .f32) (t0 : FVec F S208x128 .bf16) (s0 : FVec F S4x208 .f32)
    (t1 : FVec F S208x128 .bf16) (s1 : FVec F S4x208 .f32) (t2 : FVec F S208x128 .bf16) (s2 : FVec F S4x208 .f32)
    (t3 : FVec F S208x128 .bf16) (s3 : FVec F S4x208 .f32) : FVec F S16x512 .f32 :=
  matmul dot_S16x208_S208x512_S16x512_1_0_0_1_n_n none
    (truncf .bf16 (mulf p (concatenate S16x208 0 [⟨S4x208, s0⟩, ⟨S4x208, s1⟩, ⟨S4x208, s2⟩, ⟨S4x208, s3⟩]
      concatenates_S4x208_S4x208_S4x208_S4x208_S16x208_d0)) bitsLt_bf16_f32)
    (concatenate S208x512 1 [⟨S208x128, t0⟩, ⟨S208x128, t1⟩, ⟨S208x128, t2⟩, ⟨S208x128, t3⟩]
      concatenates_S208x128_S208x128_S208x128_S208x128_S208x512_d1)
    (constant S16x512 .f32 0x00000000#32)

/-- The sixteen output rows: each row's probabilities times the value scales, contracted with all four heads'
    value rows at once, and the row's own head's 128 columns taken out of the 512. -/
def gather (p : FVec F S16x208 .f32) (n0 n1 n2 n3 : Vec F S1x128 .bf16) (k0 k1 k2 k3 : Vec F S1x192x128 .i8)
    (s0 s1 s2 s3 : Vec F S1x192 .f32) : FVec F S16x128 .bf16 :=
  k0_pay36 (k0_pay33 k0_pay1 k0_pay2 k0_pay3 k0_pay4
    (product p (tile n0 k0) (scales s0) (tile n1 k1) (scales s1) (tile n2 k2) (scales s2) (tile n3 k3) (scales s3))
    k0_pay29)

/-- The probabilities of group 0, read out of the eight input blocks. -/
def probs0 (x0 : Vec F S64x128 .bf16) (x1 x2 : Vec F S16x128 .bf16) (x3 : Vec F S16x192x128 .i8)
    (x4 : Vec F S16x192 .f32) (x5 : Vec F S16x192x128 .i8) (x6 x7 : Vec F S16x192 .f32) : FVec F S16x208 .f32 :=
  probs (View.ld x0 r0_0) (View.ld x1 r0_1) (View.ld x1 r0_4) (View.ld x1 r0_7) (View.ld x1 r0_10)
    (View.ld x3 r0_2) (View.ld x3 r0_5) (View.ld x3 r0_8) (View.ld x3 r0_11)
    (View.ld x4 r0_3) (View.ld x4 r0_6) (View.ld x4 r0_9) (View.ld x4 r0_12)

/-- The output rows of group 0, read out of the eight input blocks. -/
def out0 (x0 : Vec F S64x128 .bf16) (x1 x2 : Vec F S16x128 .bf16) (x3 : Vec F S16x192x128 .i8)
    (x4 : Vec F S16x192 .f32) (x5 : Vec F S16x192x128 .i8) (x6 x7 : Vec F S16x192 .f32) : FVec F S16x128 .bf16 :=
  gather (probs0 x0 x1 x2 x3 x4 x5 x6 x7) (View.ld x2 r0_1) (View.ld x2 r0_4) (View.ld x2 r0_7) (View.ld x2 r0_10)
    (View.ld x5 r0_2) (View.ld x5 r0_5) (View.ld x5 r0_8) (View.ld x5 r0_11)
    (View.ld x6 r0_3) (View.ld x6 r0_6) (View.ld x6 r0_9) (View.ld x6 r0_12)

/-- The probabilities of group 1, read out of the eight input blocks. -/
def probs1 (x0 : Vec F S64x128 .bf16) (x1 x2 : Vec F S16x128 .bf16) (x3 : Vec F S16x192x128 .i8)
    (x4 : Vec F S16x192 .f32) (x5 : Vec F S16x192x128 .i8) (x6 x7 : Vec F S16x192 .f32) : FVec F S16x208 .f32 :=
  probs (View.ld x0 r0_13) (View.ld x1 r0_14) (View.ld x1 r0_17) (View.ld x1 r0_20) (View.ld x1 r0_23)
    (View.ld x3 r0_15) (View.ld x3 r0_18) (View.ld x3 r0_21) (View.ld x3 r0_24)
    (View.ld x4 r0_16) (View.ld x4 r0_19) (View.ld x4 r0_22) (View.ld x4 r0_25)

/-- The output rows of group 1, read out of the eight input blocks. -/
def out1 (x0 : Vec F S64x128 .bf16) (x1 x2 : Vec F S16x128 .bf16) (x3 : Vec F S16x192x128 .i8)
    (x4 : Vec F S16x192 .f32) (x5 : Vec F S16x192x128 .i8) (x6 x7 : Vec F S16x192 .f32) : FVec F S16x128 .bf16 :=
  gather (probs1 x0 x1 x2 x3 x4 x5 x6 x7) (View.ld x2 r0_14) (View.ld x2 r0_17) (View.ld x2 r0_20) (View.ld x2 r0_23)
    (View.ld x5 r0_15) (View.ld x5 r0_18) (View.ld x5 r0_21) (View.ld x5 r0_24)
    (View.ld x6 r0_16) (View.ld x6 r0_19) (View.ld x6 r0_22) (View.ld x6 r0_25)

/-- The probabilities of group 2, read out of the eight input blocks. -/
def probs2 (x0 : Vec F S64x128 .bf16) (x1 x2 : Vec F S16x128 .bf16) (x3 : Vec F S16x192x128 .i8)
    (x4 : Vec F S16x192 .f32) (x5 : Vec F S16x192x128 .i8) (x6 x7 : Vec F S16x192 .f32) : FVec F S16x208 .f32 :=
  probs (View.ld x0 r0_26) (View.ld x1 r0_27) (View.ld x1 r0_30) (View.ld x1 r0_33) (View.ld x1 r0_36)
    (View.ld x3 r0_28) (View.ld x3 r0_31) (View.ld x3 r0_34) (View.ld x3 r0_37)
    (View.ld x4 r0_29) (View.ld x4 r0_32) (View.ld x4 r0_35) (View.ld x4 r0_38)

/-- The output rows of group 2, read out of the eight input blocks. -/
def out2 (x0 : Vec F S64x128 .bf16) (x1 x2 : Vec F S16x128 .bf16) (x3 : Vec F S16x192x128 .i8)
    (x4 : Vec F S16x192 .f32) (x5 : Vec F S16x192x128 .i8) (x6 x7 : Vec F S16x192 .f32) : FVec F S16x128 .bf16 :=
  gather (probs2 x0 x1 x2 x3 x4 x5 x6 x7) (View.ld x2 r0_27) (View.ld x2 r0_30) (View.ld x2 r0_33) (View.ld x2 r0_36)
    (View.ld x5 r0_28) (View.ld x5 r0_31) (View.ld x5 r0_34) (View.ld x5 r0_37)
    (View.ld x6 r0_29) (View.ld x6 r0_32) (View.ld x6 r0_35) (View.ld x6 r0_38)

/-- The probabilities of group 3, read out of the eight input blocks. -/
def probs3 (x0 : Vec F S64x128 .bf16) (x1 x2 : Vec F S16x128 .bf16) (x3 : Vec F S16x192x128 .i8)
    (x4 : Vec F S16x192 .f32) (x5 : Vec F S16x192x128 .i8) (x6 x7 : Vec F S16x192 .f32) : FVec F S16x208 .f32 :=
  probs (View.ld x0 r0_39) (View.ld x1 r0_40) (View.ld x1 r0_43) (View.ld x1 r0_46) (View.ld x1 r0_49)
    (View.ld x3 r0_41) (View.ld x3 r0_44) (View.ld x3 r0_47) (View.ld x3 r0_50)
    (View.ld x4 r0_42) (View.ld x4 r0_45) (View.ld x4 r0_48) (View.ld x4 r0_51)

/-- The output rows of group 3, read out of the eight input blocks. -/
def out3 (x0 : Vec F S64x128 .bf16) (x1 x2 : Vec F S16x128 .bf16) (x3 : Vec F S16x192x128 .i8)
    (x4 : Vec F S16x192 .f32) (x5 : Vec F S16x192x128 .i8) (x6 x7 : Vec F S16x192 .f32) : FVec F S16x128 .bf16 :=
  gather (probs3 x0 x1 x2 x3 x4 x5 x6 x7) (View.ld x2 r0_40) (View.ld x2 r0_43) (View.ld x2 r0_46) (View.ld x2 r0_49)
    (View.ld x5 r0_41) (View.ld x5 r0_44) (View.ld x5 r0_47) (View.ld x5 r0_50)
    (View.ld x6 r0_42) (View.ld x6 r0_45) (View.ld x6 r0_48) (View.ld x6 r0_51)

/-- The probability mass of four query rows added to a row of kept scores; here query rows 0 to 3. -/
def mass0 (p : FVec F S16x208 .f32) (s : Vec F S1x192 .f32) : FVec F S1x192 .f32 := k0_pay30 p s
/-- The same for query rows 4 to 7. -/
def mass1 (p : FVec F S16x208 .f32) (s : Vec F S1x192 .f32) : FVec F S1x192 .f32 := k0_pay31 p s
/-- The same for query rows 8 to 11. -/
def mass2 (p : FVec F S16x208 .f32) (s : Vec F S1x192 .f32) : FVec F S1x192 .f32 := k0_pay32 p s
/-- The same for query rows 12 to 15. -/
def mass3 (p : FVec F S16x208 .f32) (s : Vec F S1x192 .f32) : FVec F S1x192 .f32 := k0_pay35 (k0_pay34 p) s

/-- The first stored block is the four groups' output rows, one below another. -/
theorem out0_8_eq (x0 : Vec F S64x128 .bf16) (x1 x2 : Vec F S16x128 .bf16) (x3 : Vec F S16x192x128 .i8)
    (x4 : Vec F S16x192 .f32) (x5 : Vec F S16x192x128 .i8) (x6 x7 : Vec F S16x192 .f32) :
    out0_8 x0 x1 x2 x3 x4 x5 x6 x7 = View.canon [⟨r0_39, out3 x0 x1 x2 x3 x4 x5 x6 x7⟩, ⟨r0_26, out2 x0 x1 x2 x3 x4 x5 x6 x7⟩,
      ⟨r0_13, out1 x0 x1 x2 x3 x4 x5 x6 x7⟩, ⟨r0_0, out0 x0 x1 x2 x3 x4 x5 x6 x7⟩] := rfl

/-- The second stored block is the sixteen heads' kept scores with their probability mass added. -/
theorem out0_9_eq (x0 : Vec F S64x128 .bf16) (x1 x2 : Vec F S16x128 .bf16) (x3 : Vec F S16x192x128 .i8)
    (x4 : Vec F S16x192 .f32) (x5 : Vec F S16x192x128 .i8) (x6 x7 : Vec F S16x192 .f32) :
    out0_9 x0 x1 x2 x3 x4 x5 x6 x7 = View.canon [⟨r0_51, mass3 (probs3 x0 x1 x2 x3 x4 x5 x6 x7) (View.ld x7 r0_51)⟩,
      ⟨r0_48, mass2 (probs3 x0 x1 x2 x3 x4 x5 x6 x7) (View.ld x7 r0_48)⟩,
      ⟨r0_45, mass1 (probs3 x0 x1 x2 x3 x4 x5 x6 x7) (View.ld x7 r0_45)⟩,
      ⟨r0_42, mass0 (probs3 x0 x1 x2 x3 x4 x5 x6 x7) (View.ld x7 r0_42)⟩,
      ⟨r0_38, mass3 (probs2 x0 x1 x2 x3 x4 x5 x6 x7) (View.ld x7 r0_38)⟩,
      ⟨r0_35, mass2 (probs2 x0 x1 x2 x3 x4 x5 x6 x7) (View.ld x7 r0_35)⟩,
      ⟨r0_32, mass1 (probs2 x0 x1 x2 x3 x4 x5 x6 x7) (View.ld x7 r0_32)⟩,
      ⟨r0_29, mass0 (probs2 x0 x1 x2 x3 x4 x5 x6 x7) (View.ld x7 r0_29)⟩,
      ⟨r0_25, mass3 (probs1 x0 x1 x2 x3 x4 x5 x6 x7) (View.ld x7 r0_25)⟩,
      ⟨r0_22, mass2 (probs1 x0 x1 x2 x3 x4 x5 x6 x7) (View.ld x7 r0_22)⟩,
      ⟨r0_19, mass1 (probs1 x0 x1 x2 x3 x4 x5 x6 x7) (View.ld x7 r0_19)⟩,
      ⟨r0_16, mass0 (probs1 x0 x1 x2 x3 x4 x5 x6 x7) (View.ld x7 r0_16)⟩,
      ⟨r0_12, mass3 (probs0 x0 x1 x2 x3 x4 x5 x6 x7) (View.ld x7 r0_12)⟩,
      ⟨r0_9, mass2 (probs0 x0 x1 x2 x3 x4 x5 x6 x7) (View.ld x7 r0_9)⟩,
      ⟨r0_6, mass1 (probs0 x0 x1 x2 x3 x4 x5 x6 x7) (View.ld x7 r0_6)⟩,
      ⟨r0_3, mass0 (probs0 x0 x1 x2 x3 x4 x5 x6 x7) (View.ld x7 r0_3)⟩] := rfl

end Cert.KernelIdeal.Quad
-- ==== Proof.Math.lean ====
/- The mathematics of one query row of the attention step over the extended reals: the 193 scores, their
   probabilities and the output row. Nothing here mentions the kernel or the reference. -/
module

public import Idealize.ShloMosaic.Lib.Pointwise

@[expose] public section

noncomputable section

namespace Cert.Math

open Idealize.ShloMosaic

/-- The constant both programs multiply a score by: one over the square root of 128, as an f32 number. -/
def smScale : EReal := Ideal.ofBits .f32 0x3DB504F3#32

/-- An 8-bit code as an extended real. -/
abbrev code (b : BitVec 8) : EReal := ((b.toInt : ℝ) : EReal)

/-- The 193 scores of a query row `q`: against each kept key row `K t` times that row's scale `ks t`, and last against
    the new key row `n`; each times `smScale`. -/
def score (q : Fin 128 → EReal) (K : Fin 192 → Fin 128 → EReal) (ks : Fin 192 → EReal) (n : Fin 128 → EReal)
    (t : Fin 193) : EReal :=
  if h : t.val < 192 then (∑ k, q k * K ⟨t.val, h⟩ k) * ks ⟨t.val, h⟩ * smScale else (∑ k, q k * n k) * smScale

/-- The softmax of `N` scores: each score less the greatest, exponentiated, divided by the sum of those. -/
def softmax {N : ℕ} (s : Fin N → EReal) (t : Fin N) : EReal :=
  Ideal.div (Ideal.exp (s t - Finset.univ.sup s)) (∑ u, Ideal.exp (s u - Finset.univ.sup s))

/-- One element of the output row: the kept tokens' probabilities times their value scales `vs` against column `V`,
    plus the new token's probability times its value. -/
def mix (p : Fin 193 → EReal) (V : Fin 192 → EReal) (vs : Fin 192 → EReal) (n : EReal) : EReal :=
  (∑ t : Fin 192, p t.castSucc * vs t * V t) + p (Fin.last 192) * n

/-- The bottom element less anything is the bottom element. -/
theorem bot_sub (x : EReal) : (⊥ : EReal) - x = ⊥ := by rw [sub_eq_add_neg, EReal.bot_add]

/-- 193 scores followed by fifteen bottom elements. -/
def padded (s : Fin 193 → EReal) (t : Fin 208) : EReal := if h : t.val < 193 then s ⟨t.val, h⟩ else ⊥

/-- A sum over 208 places whose last fifteen terms are zero is the sum over the first 193. -/
theorem sum_208 (f : Fin 208 → EReal) (g : Fin 193 → EReal) (hg : ∀ t : Fin 193, f ⟨t.val, by omega⟩ = g t)
    (hz : ∀ t : Fin 208, 193 ≤ t.val → f t = 0) : ∑ t, f t = ∑ t, g t := by
  have := Fin.sum_univ_add (a := 193) (b := 15) (f : Fin (193 + 15) → EReal)
  refine this.trans ?_
  have z : ∑ i : Fin 15, f (Fin.natAdd 193 i : Fin (193 + 15)) = 0 :=
    Finset.sum_eq_zero fun i _ => hz _ (Nat.le_add_right 193 i.val)
  refine (congrArg (_ + ·) z).trans ((add_zero _).trans ?_)
  exact Finset.sum_congr rfl fun t _ => hg t

/-- The greatest of the padded scores is the greatest of the 193. -/
theorem sup_pad (s : Fin 193 → EReal) : Finset.univ.sup (padded s) = Finset.univ.sup s := by
  apply le_antisymm
  · refine Finset.sup_le fun t _ => ?_
    unfold padded
    split
    · exact Finset.le_sup (f := s) (Finset.mem_univ _)
    · exact bot_le
  · refine Finset.sup_le fun t _ => ?_
    have h := Finset.le_sup (f := padded s) (Finset.mem_univ (⟨t.val, by omega⟩ : Fin 208))
    unfold padded at h
    rwa [dif_pos t.isLt] at h

/-- The padded places add nothing to a softmax's denominator, so at a real place the padded softmax is the softmax. -/
theorem softmax_pad (s : Fin 193 → EReal) (t : Fin 193) : softmax (padded s) ⟨t.val, by omega⟩ = softmax s t := by
  unfold softmax
  rw [sup_pad, sum_208 _ (fun u => Ideal.exp (s u - Finset.univ.sup s))]
  · unfold padded; rw [dif_pos t.isLt]
  · intro u; unfold padded; rw [dif_pos u.isLt]
  · intro u hu
    unfold padded
    rw [dif_neg (by omega), bot_sub, Ideal.exp_bot]

/-- A sum over 512 columns is the sum over four blocks of 128. -/
theorem sum_512 (f : Fin 512 → EReal) : ∑ c, f c = ∑ a : Fin 4, ∑ k : Fin 128, f ⟨128 * a.val + k.val, by omega⟩ := by
  rw [← Equiv.sum_comp (finProdFinEquiv (m := 4) (n := 128)) (f : Fin (4 * 128) → EReal), Fintype.sum_prod_type]
  refine Finset.sum_congr rfl fun a _ => Finset.sum_congr rfl fun k _ => congrArg f (Fin.ext ?_)
  exact Nat.add_comm k.val (128 * a.val)

/-- A sum over 193 places is the sum over the first 192 and the last term. -/
theorem sum_193 (f : Fin 193 → EReal) : ∑ t, f t = (∑ t : Fin 192, f t.castSucc) + f (Fin.last 192) :=
  Fin.sum_univ_castSucc f

end Cert.Math
-- ==== Proof.QuadRead.lean ====
/- The pieces of one group of four heads, each read at an index, at the ideal values. -/
module

public import proofs.«01_k».proof.Proof.Quad
public import proofs.«01_k».proof.Proof.Math
public import Idealize.ShloMosaic.Lib.Pointwise

@[expose] public section

noncomputable section

namespace Cert.KernelIdeal.Quad

open Idealize.ShloMosaic Idealize.SL.Sem
open Cert.KernelIdeal Cert.KernelIdeal.Gen Cert.Math

/-- The f32 pattern of negative infinity denotes the bottom element. -/
theorem ofBits_neg_inf : Ideal.ofBits .f32 0xFF800000#32 = ⊥ := by simp [Ideal.ofBits, Ideal.ieee]

/-- A head's token rows at an index: a kept code, the new token's row, or zero. -/
theorem tile_apply (n : Vec Ideal S1x128 .bf16) (k : Vec Ideal S1x192x128 .i8) (t : Fin 208) (c : Fin 128) :
    tile n k (ix2 t c) = if h : t.val < 192 then (((k (ix3 (0 : Fin 1) ⟨t.val, h⟩ c) : BitVec 8).toInt : ℝ) : EReal)
      else if t.val = 192 then n (ix2 (0 : Fin 1) c) else 0 := by
  unfold tile
  unfold_payloads
  pointwise
  have hd : ∀ u : Fin 208, 192 ≤ u.val → IntOp.cmpi CmpIPredicate.eq (BitVec.ofNat 32 (u.val - 192)) 0#32
      = if u.val = 192 then 1#1 else 0#1 := by decide +kernel
  by_cases h : t.val < 192
  · rw [dif_pos h, dif_pos h]; rfl
  · rw [dif_neg h, dif_neg h, hd t (by omega)]
    by_cases h' : t.val = 192
    · rw [if_pos h', if_pos h']; rfl
    · rw [if_neg h', if_neg h']; rfl

/-- A head's scales at an index: a kept scale, or one. -/
theorem scales_apply (s : Vec Ideal S1x192 .f32) (i : Fin 4) (t : Fin 208) :
    scales s (ix2 i t) = if h : t.val < 192 then s (ix2 (0 : Fin 1) ⟨t.val, h⟩) else 1 := by
  unfold scales
  unfold_payloads
  pointwise

/-- Four blocks of query rows side by side at a column: block `c / 128`'s, at column `c % 128`. -/
theorem joinq_apply' (T : Fin 4 → FVec Ideal S16x128 .bf16) (r : Fin 16) (c : Fin 512) :
    concatenate S16x512 1 [⟨S16x128, T 0⟩, ⟨S16x128, T 1⟩, ⟨S16x128, T 2⟩, ⟨S16x128, T 3⟩]
      concatenates_S16x128_S16x128_S16x128_S16x128_S16x512_d1 (ix2 r c)
      = T ⟨c.val / 128, by omega⟩ (ix2 r (⟨c.val % 128, Nat.mod_lt _ (by decide)⟩ : Fin 128)) := by
  pointwise
  have key : ∀ (a : Fin 4) (x : ℕ) (hx : x < 128), a.val = c.val / 128 → x = c.val % 128 →
      T a (ix2 r ⟨x, hx⟩) = T ⟨c.val / 128, by omega⟩ (ix2 r (⟨c.val % 128, Nat.mod_lt _ (by decide)⟩ : Fin 128)) := by
    intro a x hx ha he
    subst he
    exact congrArg (fun b => T b _) (Fin.ext ha)
  have hc := c.isLt
  split
  · exact key 0 _ _ (by show 0 = _; omega) (by omega)
  · split
    · exact key 1 _ _ (by show 1 = _; omega) (by omega)
    · split
      · exact key 2 _ _ (by show 2 = _; omega) (by omega)
      · exact key 3 _ _ (by show 3 = _; omega) (by omega)

/-- Four blocks of query rows side by side, at column `128 * a + k`: block `a`'s column `k`. -/
theorem joinq_apply (T : Fin 4 → FVec Ideal S16x128 .bf16) (r : Fin 16) (a : Fin 4) (k : Fin 128) :
    concatenate S16x512 1 [⟨S16x128, T 0⟩, ⟨S16x128, T 1⟩, ⟨S16x128, T 2⟩, ⟨S16x128, T 3⟩]
      concatenates_S16x128_S16x128_S16x128_S16x128_S16x512_d1 (ix2 r (⟨128 * a.val + k.val, by omega⟩ : Fin 512))
      = T a (ix2 r k) := by
  rw [joinq_apply']
  have hk := k.isLt
  have ha : (⟨(128 * a.val + k.val) / 128, by omega⟩ : Fin 4) = a := Fin.ext (by show (128 * a.val + k.val) / 128 = _; omega)
  have hx : (⟨(128 * a.val + k.val) % 128, Nat.mod_lt _ (by decide)⟩ : Fin 128) = k :=
    Fin.ext (by show (128 * a.val + k.val) % 128 = _; omega)
  show T ⟨(128 * a.val + k.val) / 128, _⟩ (ix2 r ⟨(128 * a.val + k.val) % 128, _⟩) = _
  rw [ha, hx]

/-- The four heads' token rows side by side at a column: block `c / 128`'s, at column `c % 128`. -/
theorem join_apply' (T : Fin 4 → FVec Ideal S208x128 .bf16) (t : Fin 208) (c : Fin 512) :
    concatenate S208x512 1 [⟨S208x128, T 0⟩, ⟨S208x128, T 1⟩, ⟨S208x128, T 2⟩, ⟨S208x128, T 3⟩]
      concatenates_S208x128_S208x128_S208x128_S208x128_S208x512_d1 (ix2 t c)
      = T ⟨c.val / 128, by omega⟩ (ix2 t (⟨c.val % 128, Nat.mod_lt _ (by decide)⟩ : Fin 128)) := by
  pointwise
  have key : ∀ (a : Fin 4) (x : ℕ) (hx : x < 128), a.val = c.val / 128 → x = c.val % 128 →
      T a (ix2 t ⟨x, hx⟩) = T ⟨c.val / 128, by omega⟩ (ix2 t (⟨c.val % 128, Nat.mod_lt _ (by decide)⟩ : Fin 128)) := by
    intro a x hx ha he
    subst he
    exact congrArg (fun b => T b _) (Fin.ext ha)
  have hc := c.isLt
  split
  · exact key 0 _ _ (by show 0 = _; omega) (by omega)
  · split
    · exact key 1 _ _ (by show 1 = _; omega) (by omega)
    · split
      · exact key 2 _ _ (by show 2 = _; omega) (by omega)
      · exact key 3 _ _ (by show 3 = _; omega) (by omega)

/-- The four heads' token rows side by side, at column `128 * a + k`: block `a`'s column `k`. -/
theorem join_apply (T : Fin 4 → FVec Ideal S208x128 .bf16) (t : Fin 208) (a : Fin 4) (k : Fin 128) :
    concatenate S208x512 1 [⟨S208x128, T 0⟩, ⟨S208x128, T 1⟩, ⟨S208x128, T 2⟩, ⟨S208x128, T 3⟩]
      concatenates_S208x128_S208x128_S208x128_S208x128_S208x512_d1 (ix2 t (⟨128 * a.val + k.val, by omega⟩ : Fin 512))
      = T a (ix2 t k) := by
  rw [join_apply']
  have hk := k.isLt
  have ha : (⟨(128 * a.val + k.val) / 128, by omega⟩ : Fin 4) = a := Fin.ext (by show (128 * a.val + k.val) / 128 = _; omega)
  have hx : (⟨(128 * a.val + k.val) % 128, Nat.mod_lt _ (by decide)⟩ : Fin 128) = k :=
    Fin.ext (by show (128 * a.val + k.val) % 128 = _; omega)
  show T ⟨(128 * a.val + k.val) / 128, _⟩ (ix2 t ⟨(128 * a.val + k.val) % 128, _⟩) = _
  rw [ha, hx]

/-- Which of the four masks of query rows stands over column block `a`. -/
def mask (a : Fin 4) : IVec S16x1 1 := ![k0_pay1, k0_pay2, k0_pay3, k0_pay4] a

/-- Mask `a` at a row is one in the rows of head `a`. -/
theorem mask_apply (a : Fin 4) (r : Fin 16) : mask a (ix2 r (0 : Fin 1)) = if a.val = r.val / 4 then 1#1 else 0#1 := by
  revert a r
  decide +kernel

/-- A choice by a word that is one exactly when a condition holds is the choice by the condition. -/
theorem select_ite (P : Prop) [Decidable P] (x y : EReal) :
    Scalar.select (if P then 1#1 else 0#1) x y = if P then x else y := by split <;> rfl

/-- The query rows in column block `a`: the rows of head `a`, the others zero. -/
def part (q : Vec Ideal S16x128 .bf16) (a : Fin 4) : FVec Ideal S16x128 .bf16 :=
  truncf .bf16 (select (broadcastTo S16x128 (shapeCast S16x1 (mask a) shapeCasts_S16x1_S16x1) broadcasts_S16x1_S16x128)
    (extf .f32 (shapeCast S16x128 q shapeCasts_S16x128_S16x128 : FVec Ideal S16x128 .bf16) bitsLt_bf16_f32)
    (broadcast S16x128 (Scalar.ofBits .f32 0x00000000#32))) bitsLt_bf16_f32

/-- A column block's query rows at an index. -/
theorem part_apply (q : Vec Ideal S16x128 .bf16) (a : Fin 4) (r : Fin 16) (k : Fin 128) :
    part q a (ix2 r k) = if a.val = r.val / 4 then q (ix2 r k) else 0 := by
  unfold part
  pointwise
  have := mask_apply a r
  rw [show (0 : Fin 1) = ⟨0, Nat.one_pos⟩ from rfl] at this
  first | rw [this, select_ite] | rw [mask_apply, select_ite]

/-- The spread query rows at an index: row `r` stands in column block `r / 4`. -/
theorem spread_apply (q : Vec Ideal S16x128 .bf16) (r : Fin 16) (a : Fin 4) (k : Fin 128) :
    spread q (ix2 r (⟨128 * a.val + k.val, by omega⟩ : Fin 512)) = if a.val = r.val / 4 then q (ix2 r k) else 0 := by
  rw [← part_apply]
  exact joinq_apply (part q) r a k

/-- The four heads' scales one below another, at row `r`: head `r / 4`'s. -/
theorem stack_apply (S : Fin 4 → FVec Ideal S4x208 .f32) (r : Fin 16) (t : Fin 208) :
    concatenate S16x208 0 [⟨S4x208, S 0⟩, ⟨S4x208, S 1⟩, ⟨S4x208, S 2⟩, ⟨S4x208, S 3⟩]
      concatenates_S4x208_S4x208_S4x208_S4x208_S16x208_d0 (ix2 r t)
      = S ⟨r.val / 4, by omega⟩ (ix2 (⟨r.val % 4, Nat.mod_lt _ (by decide)⟩ : Fin 4) t) := by
  pointwise
  fin_cases r <;> rfl

/-- The scaled scores of a group's sixteen rows before the softmax, negative infinity past column 192. -/
def masked (l : FVec Ideal S16x512 .bf16) (T : Fin 4 → FVec Ideal S208x128 .bf16) (S : Fin 4 → FVec Ideal S4x208 .f32) :
    FVec Ideal S16x208 .f32 :=
  select (cmpi .sle column (broadcast S16x208 192#32))
    (mulf (mulf (matmul dot_S16x512_S208x512_S16x208_1_1_0_0_n_n none l
        (concatenate S208x512 1 [⟨S208x128, T 0⟩, ⟨S208x128, T 1⟩, ⟨S208x128, T 2⟩, ⟨S208x128, T 3⟩]
          concatenates_S208x128_S208x128_S208x128_S208x128_S208x512_d1) (constant S16x208 .f32 0x00000000#32))
        (concatenate S16x208 0 [⟨S4x208, S 0⟩, ⟨S4x208, S 1⟩, ⟨S4x208, S 2⟩, ⟨S4x208, S 3⟩]
          concatenates_S4x208_S4x208_S4x208_S4x208_S16x208_d0))
      (broadcast S16x208 (Scalar.ofBits .f32 0x3DB504F3#32)))
    (broadcast S16x208 (Scalar.ofBits .f32 0xFF800000#32))

/-- The softmax the kernel takes of each row of 208 scores. -/
def rowSoftmax (x : FVec Ideal S16x208 .f32) : FVec Ideal S16x208 .f32 :=
  have m := broadcastTo S16x208 (shapeCast S16x1 (multiReduction .maximumf [1] S16 x 0xFF800000#32 reduces_S16x208_S16 (.inl rfl) rfl)
    shapeCasts_S16_S16x1) broadcasts_S16x1_S16x208
  have e := exp (subf x m)
  divf e (broadcastTo S16x208 (shapeCast S16x1 (multiReduction .add [1] S16 e 0x00000000#32 reduces_S16x208_S16 (.inl rfl) rfl)
    shapeCasts_S16_S16x1) broadcasts_S16x1_S16x208)

/-- The maximum of a row of 208, as the kernel takes it, is the greatest of the row. -/
theorem rowMax_apply (x : FVec Ideal S16x208 .f32) (r : Fin 16) :
    multiReduction .maximumf [1] S16 x 0xFF800000#32 reduces_S16x208_S16 (.inl rfl) rfl (ix1 r)
      = Finset.univ.sup fun t : Fin 208 => x (ix2 r t) := by
  refine (Ideal.multiReduction_maximumf_single (φ := .f32) x 0xFF800000#32 reduces_S16x208_S16 (.inl rfl) rfl (ix1 r)).trans ?_
  show Finset.fold max (Ideal.ofBits .f32 0xFF800000#32) _ _ = _
  rw [ofBits_neg_inf]
  refine Eq.trans (b := Finset.univ.sup (x ∘ Shape.Reduces.lift reduces_S16x208_S16 (ix1 r))) rfl ?_
  refine Finset.sup_congr rfl fun t _ => congrArg x (funext fun a => ?_)
  fin_cases a <;> rfl

/-- The kernel's softmax of a row of 208 is the mathematical one. -/
theorem rowSoftmax_apply (x : FVec Ideal S16x208 .f32) (r : Fin 16) (t : Fin 208) :
    rowSoftmax x (ix2 r t) = softmax (fun u : Fin 208 => x (ix2 r u)) t := by
  have hm : ∀ u : Fin 208, broadcastTo S16x208 (shapeCast S16x1 (multiReduction .maximumf [1] S16 x 0xFF800000#32 reduces_S16x208_S16 (.inl rfl) rfl)
      shapeCasts_S16_S16x1) broadcasts_S16x1_S16x208 (ix2 r u) = Finset.univ.sup fun t : Fin 208 => x (ix2 r t) := by
    intro u
    rw [← rowMax_apply]
    generalize multiReduction .maximumf [1] S16 x 0xFF800000#32 reduces_S16x208_S16 (.inl rfl) rfl = y
    pointwise
  unfold rowSoftmax
  generalize broadcastTo S16x208 (shapeCast S16x1 (multiReduction .maximumf [1] S16 x 0xFF800000#32 reduces_S16x208_S16 (.inl rfl) rfl)
      shapeCasts_S16_S16x1) broadcasts_S16x1_S16x208 = m at hm
  pointwise [hm]
  rfl

/-- The scaled scores at an index: row `r` meets head `r / 4`'s tokens only. -/
theorem masked_apply (q : Vec Ideal S16x128 .bf16) (T : Fin 4 → FVec Ideal S208x128 .bf16) (S : Fin 4 → FVec Ideal S4x208 .f32)
    (r : Fin 16) (t : Fin 208) :
    masked (spread q) T S (ix2 r t) = if t.val ≤ 192 then
      (∑ k : Fin 128, q (ix2 r k) * T ⟨r.val / 4, by omega⟩ (ix2 t k))
        * S ⟨r.val / 4, by omega⟩ (ix2 (⟨r.val % 4, Nat.mod_lt _ (by decide)⟩ : Fin 4) t) * smScale else ⊥ := by
  have hc : ∀ t : Fin 208, IntOp.cmpi CmpIPredicate.sle (BitVec.ofNat 32 t.val) 192#32 = if t.val ≤ 192 then 1#1 else 0#1 := by
    decide +kernel
  unfold masked column
  have hs := stack_apply S r t
  have hj := join_apply T t
  generalize concatenate S208x512 1 [⟨S208x128, T 0⟩, ⟨S208x128, T 1⟩, ⟨S208x128, T 2⟩, ⟨S208x128, T 3⟩]
          concatenates_S208x128_S208x128_S208x128_S208x128_S208x512_d1 = J at hj
  generalize concatenate S16x208 0 [⟨S4x208, S 0⟩, ⟨S4x208, S 1⟩, ⟨S4x208, S 2⟩, ⟨S4x208, S 3⟩]
          concatenates_S4x208_S4x208_S4x208_S4x208_S16x208_d0 = K at hs
  pointwise [hs, hc, select_ite, dot_S16x512_S208x512_S16x208_1_1_0_0_n_n]
  rw [ofBits_neg_inf, sum_512]
  simp only [spread_apply, hj]
  rw [Finset.sum_eq_single (⟨r.val / 4, by omega⟩ : Fin 4)]
  · simp only [if_true]; rfl
  · intro b _ hb
    refine Finset.sum_eq_zero fun k _ => ?_
    rw [if_neg (fun h => hb (Fin.ext h)), zero_mul]
  · intro h; exact absurd (Finset.mem_univ _) h

/-- The contraction with the four heads' value rows at an index: row `r`, column `k` of head `a`'s block. -/
theorem product_apply (p : FVec Ideal S16x208 .f32) (T : Fin 4 → FVec Ideal S208x128 .bf16) (S : Fin 4 → FVec Ideal S4x208 .f32)
    (r : Fin 16) (a : Fin 4) (k : Fin 128) :
    product p (T 0) (S 0) (T 1) (S 1) (T 2) (S 2) (T 3) (S 3) (ix2 r (⟨128 * a.val + k.val, by omega⟩ : Fin 512))
      = ∑ t : Fin 208, p (ix2 r t) * S ⟨r.val / 4, by omega⟩ (ix2 (⟨r.val % 4, Nat.mod_lt _ (by decide)⟩ : Fin 4) t)
          * T a (ix2 t k) := by
  unfold product
  have hs := stack_apply S r
  have hj := fun t => join_apply T t a k
  generalize concatenate S208x512 1 [⟨S208x128, T 0⟩, ⟨S208x128, T 1⟩, ⟨S208x128, T 2⟩, ⟨S208x128, T 3⟩]
          concatenates_S208x128_S208x128_S208x128_S208x128_S208x512_d1 = J at hj
  generalize concatenate S16x208 0 [⟨S4x208, S 0⟩, ⟨S4x208, S 1⟩, ⟨S4x208, S 2⟩, ⟨S4x208, S 3⟩]
          concatenates_S4x208_S4x208_S4x208_S4x208_S16x208_d0 = K at hs
  generalize (⟨128 * a.val + k.val, by omega⟩ : Fin 512) = c at hj
  pointwise [hs, hj, dot_S16x208_S208x512_S16x512_1_0_0_1_n_n]

/-- The choice of the row's own column block at an index: row `r` takes block `r / 4`. -/
theorem choose_apply (P : FVec Ideal S16x512 .f32) (r : Fin 16) (k : Fin 128) :
    k0_pay36 (k0_pay33 k0_pay1 k0_pay2 k0_pay3 k0_pay4 P k0_pay29) (ix2 r k)
      = P (ix2 r (⟨128 * (r.val / 4) + k.val, by omega⟩ : Fin 512)) := by
  have m0 : k0_pay1 (ix2 r (0 : Fin 1)) = if 0 = r.val / 4 then 1#1 else 0#1 := mask_apply 0 r
  have m1 : k0_pay2 (ix2 r (0 : Fin 1)) = if 1 = r.val / 4 then 1#1 else 0#1 := mask_apply 1 r
  have m2 : k0_pay3 (ix2 r (0 : Fin 1)) = if 2 = r.val / 4 then 1#1 else 0#1 := mask_apply 2 r
  have m3 : k0_pay4 (ix2 r (0 : Fin 1)) = if 3 = r.val / 4 then 1#1 else 0#1 := mask_apply 3 r
  unfold k0_pay36 k0_pay33 k0_pay29
  generalize k0_pay1 = M0 at m0
  generalize k0_pay2 = M1 at m1
  generalize k0_pay3 = M2 at m2
  generalize k0_pay4 = M3 at m3
  pointwise [m0, m1, m2, m3, select_ite]
  have hr := r.isLt
  have key : ∀ (a : ℕ) (x : ℕ) (hx : x < 512), a = r.val / 4 → x = 128 * a + k.val →
      P (ix2 r ⟨x, hx⟩) = P (ix2 r (⟨128 * (r.val / 4) + k.val, by omega⟩ : Fin 512)) := by
    intro a x hx ha he
    subst ha he
    rfl
  split
  · exact key 3 _ _ (by assumption) (by omega)
  · split
    · exact key 2 _ _ (by assumption) (by omega)
    · split
      · exact key 1 _ _ (by assumption) (by omega)
      · split
        · exact key 0 _ _ (by assumption) (by omega)
        · omega

/-- The probabilities of a group at an index: the softmax of the scaled scores of the row. -/
theorem probs_eq (q : Vec Ideal S16x128 .bf16) (n : Fin 4 → Vec Ideal S1x128 .bf16) (k : Fin 4 → Vec Ideal S1x192x128 .i8)
    (s : Fin 4 → Vec Ideal S1x192 .f32) :
    probs q (n 0) (n 1) (n 2) (n 3) (k 0) (k 1) (k 2) (k 3) (s 0) (s 1) (s 2) (s 3)
      = rowSoftmax (masked (spread q) (fun a => tile (n a) (k a)) (fun a => scales (s a))) := rfl

/-- The 193 scores of row `r` of a group, from the group's query rows, new key rows, key codes and key scales. -/
def rowScore (q : Vec Ideal S16x128 .bf16) (n : Fin 4 → Vec Ideal S1x128 .bf16) (k : Fin 4 → Vec Ideal S1x192x128 .i8)
    (s : Fin 4 → Vec Ideal S1x192 .f32) (r : Fin 16) : Fin 193 → EReal :=
  have a : Fin 4 := ⟨r.val / 4, by omega⟩
  score (fun c => q (ix2 r c)) (fun t c => (((k a (ix3 (0 : Fin 1) t c) : BitVec 8).toInt : ℝ) : EReal))
    (fun t => s a (ix2 (0 : Fin 1) t)) (fun c => n a (ix2 (0 : Fin 1) c))

/-- The scaled scores of row `r` are its 193 scores padded. -/
theorem masked_eq_padded (q : Vec Ideal S16x128 .bf16) (n : Fin 4 → Vec Ideal S1x128 .bf16) (k : Fin 4 → Vec Ideal S1x192x128 .i8)
    (s : Fin 4 → Vec Ideal S1x192 .f32) (r : Fin 16) (t : Fin 208) :
    masked (spread q) (fun a => tile (n a) (k a)) (fun a => scales (s a)) (ix2 r t) = padded (rowScore q n k s r) t := by
  rw [masked_apply]
  unfold padded rowScore score
  simp only [tile_apply, scales_apply]
  by_cases h : t.val < 192
  · simp only [if_pos (show t.val ≤ 192 by omega), dif_pos (show t.val < 193 by omega), dif_pos h]
  · by_cases h' : t.val = 192
    · simp only [if_pos (show t.val ≤ 192 by omega), dif_pos (show t.val < 193 by omega), dif_neg h, if_pos h', mul_one]
    · simp only [if_neg (show ¬ t.val ≤ 192 by omega), dif_neg (show ¬ t.val < 193 by omega)]

/-- The probabilities of a group at a token that is not padding. -/
theorem probs_apply (q : Vec Ideal S16x128 .bf16) (n : Fin 4 → Vec Ideal S1x128 .bf16) (k : Fin 4 → Vec Ideal S1x192x128 .i8)
    (s : Fin 4 → Vec Ideal S1x192 .f32) (r : Fin 16) (t : Fin 193) :
    probs q (n 0) (n 1) (n 2) (n 3) (k 0) (k 1) (k 2) (k 3) (s 0) (s 1) (s 2) (s 3) (ix2 r (⟨t.val, by omega⟩ : Fin 208))
      = softmax (rowScore q n k s r) t := by
  rw [probs_eq, rowSoftmax_apply, ← softmax_pad]
  exact congrArg (fun f => softmax f _) (funext fun u => masked_eq_padded q n k s r u)

/-- The output rows of a group at an index: the row's probabilities against its own head's values. -/
theorem gather_apply (p : FVec Ideal S16x208 .f32) (n : Fin 4 → Vec Ideal S1x128 .bf16) (k : Fin 4 → Vec Ideal S1x192x128 .i8)
    (s : Fin 4 → Vec Ideal S1x192 .f32) (r : Fin 16) (c : Fin 128) :
    gather p (n 0) (n 1) (n 2) (n 3) (k 0) (k 1) (k 2) (k 3) (s 0) (s 1) (s 2) (s 3) (ix2 r c)
      = mix (fun t => p (ix2 r (⟨t.val, by omega⟩ : Fin 208)))
          (fun t => (((k ⟨r.val / 4, by omega⟩ (ix3 (0 : Fin 1) t c) : BitVec 8).toInt : ℝ) : EReal))
          (fun t => s ⟨r.val / 4, by omega⟩ (ix2 (0 : Fin 1) t)) (n ⟨r.val / 4, by omega⟩ (ix2 (0 : Fin 1) c)) := by
  unfold gather
  rw [choose_apply]
  refine (product_apply p (fun a => tile (n a) (k a)) (fun a => scales (s a)) r ⟨r.val / 4, by omega⟩ c).trans ?_
  simp only [tile_apply, scales_apply]
  unfold mix
  rw [sum_208 _ (fun t : Fin 193 => if h : t.val < 192 then p (ix2 r (⟨t.val, by omega⟩ : Fin 208)) * s ⟨r.val / 4, by omega⟩ (ix2 (0 : Fin 1) ⟨t.val, h⟩)
      * (((k ⟨r.val / 4, by omega⟩ (ix3 (0 : Fin 1) ⟨t.val, h⟩ c) : BitVec 8).toInt : ℝ) : EReal)
      else p (ix2 r (⟨t.val, by omega⟩ : Fin 208)) * n ⟨r.val / 4, by omega⟩ (ix2 (0 : Fin 1) c)), sum_193]
  · refine congrArg₂ (· + ·) (Finset.sum_congr rfl fun t _ => ?_) rfl
    exact dif_pos (show t.castSucc.val < 192 from t.isLt)
  · intro t
    by_cases h : t.val < 192
    · simp only [dif_pos h]
    · simp only [dif_neg h, if_pos (show t.val = 192 by omega), mul_one]
  · intro t ht
    simp only [dif_neg (show ¬ t.val < 192 by omega), if_neg (show ¬ t.val = 192 by omega), mul_zero]

/-- Four query rows' probabilities summed over a row of kept scores, at an index; here query rows 0 to 3. -/
theorem mass0_apply (p : FVec Ideal S16x208 .f32) (s : Vec Ideal S1x192 .f32) (t : Fin 192) :
    mass0 p s (ix2 (0 : Fin 1) t) = s (ix2 (0 : Fin 1) t) + ∑ g : Fin 4, p (ix2 (⟨0 + g.val, by omega⟩ : Fin 16) (⟨t.val, by omega⟩ : Fin 208)) := by
  unfold mass0 k0_pay30
  pointwise

/-- The same for query rows 4 to 7. -/
theorem mass1_apply (p : FVec Ideal S16x208 .f32) (s : Vec Ideal S1x192 .f32) (t : Fin 192) :
    mass1 p s (ix2 (0 : Fin 1) t) = s (ix2 (0 : Fin 1) t) + ∑ g : Fin 4, p (ix2 (⟨4 + g.val, by omega⟩ : Fin 16) (⟨t.val, by omega⟩ : Fin 208)) := by
  unfold mass1 k0_pay31
  pointwise

/-- The same for query rows 8 to 11. -/
theorem mass2_apply (p : FVec Ideal S16x208 .f32) (s : Vec Ideal S1x192 .f32) (t : Fin 192) :
    mass2 p s (ix2 (0 : Fin 1) t) = s (ix2 (0 : Fin 1) t) + ∑ g : Fin 4, p (ix2 (⟨8 + g.val, by omega⟩ : Fin 16) (⟨t.val, by omega⟩ : Fin 208)) := by
  unfold mass2 k0_pay32
  pointwise

/-- The same for query rows 12 to 15. -/
theorem mass3_apply (p : FVec Ideal S16x208 .f32) (s : Vec Ideal S1x192 .f32) (t : Fin 192) :
    mass3 p s (ix2 (0 : Fin 1) t) = s (ix2 (0 : Fin 1) t) + ∑ g : Fin 4, p (ix2 (⟨12 + g.val, by omega⟩ : Fin 16) (⟨t.val, by omega⟩ : Fin 208)) := by
  unfold mass3 k0_pay35 k0_pay34
  pointwise

end Cert.KernelIdeal.Quad
-- ==== Proof.Block.lean ====
/- The two blocks the kernel body leaves at one grid point, at an index: the output rows and the kept scores of one
   batch entry's sixteen heads, as the mathematics of the eight input blocks. -/
module

public import proofs.«01_k».proof.Proof.QuadRead
public import Idealize.ShloMosaic.Lib.Pipeline.ValueKit

@[expose] public section

set_option maxRecDepth 16384

noncomputable section

namespace Cert.KernelIdeal.Quad

open Cert.KernelIdeal Cert.KernelIdeal.Gen Cert.Math Idealize.ShloMosaic

/-- Loading `a` consecutive rows from row `o` of a matrix, at an index. -/
theorem ld_rows2 {A B a : ℕ} {e : EltTy} (X : Vec Ideal ⟨2, ![A, B]⟩ e) (o : ℕ)
    (inb : ∀ i, (![o, 0] : Fin 2 → ℕ) i + (⟨2, ![a, B]⟩ : Shape).size i ≤ (⟨2, ![A, B]⟩ : Shape).size i)
    (r : Fin a) (c : Fin B) (R : Fin A) (h : R.val = o + r.val) :
    View.ld X (Rect.unit (s := ⟨2, ![A, B]⟩) ![o, 0] (⟨2, ![a, B]⟩ : Shape).size inb) (ix2 r c) = X (ix2 R c) :=
  View.ld_unit_apply_of X _ _ inb (ix2 r c) (ix2 R c) fun i => by
    match i with
    | ⟨0, _⟩ => exact h
    | ⟨1, _⟩ => exact (Nat.zero_add c.val).symm

/-- Loading `a` consecutive planes from plane `o` of a stack, at an index. -/
theorem ld_rows3 {A B C a : ℕ} {e : EltTy} (X : Vec Ideal ⟨3, ![A, B, C]⟩ e) (o : ℕ)
    (inb : ∀ i, (![o, 0, 0] : Fin 3 → ℕ) i + (⟨3, ![a, B, C]⟩ : Shape).size i ≤ (⟨3, ![A, B, C]⟩ : Shape).size i)
    (r : Fin a) (b : Fin B) (c : Fin C) (R : Fin A) (h : R.val = o + r.val) :
    View.ld X (Rect.unit (s := ⟨3, ![A, B, C]⟩) ![o, 0, 0] (⟨3, ![a, B, C]⟩ : Shape).size inb) (ix3 r b c) = X (ix3 R b c) :=
  View.ld_unit_apply_of X _ _ inb (ix3 r b c) (ix3 R b c) fun i => by
    match i with
    | ⟨0, _⟩ => exact h
    | ⟨1, _⟩ => exact (Nat.zero_add b.val).symm
    | ⟨2, _⟩ => exact (Nat.zero_add c.val).symm

/-- Rows stored from row `o` on agree with one matrix `G` when each stored row is `G`'s row at its place. -/
theorem stored_rows {A B a : ℕ} {e : EltTy} (G : Vec Ideal ⟨2, ![A, B]⟩ e) (o : ℕ) (ha : o + a ≤ A)
    (inb : ∀ i, (![o, 0] : Fin 2 → ℕ) i + (⟨2, ![a, B]⟩ : Shape).size i ≤ (⟨2, ![A, B]⟩ : Shape).size i)
    (p : Vec Ideal ⟨2, ![a, B]⟩ e) (h : ∀ (r : Fin a) (c : Fin B), p (ix2 r c) = G (ix2 ⟨o + r.val, by omega⟩ c))
    (x : (⟨2, ![a, B]⟩ : Shape).Idx) :
    p x = G ((Rect.unit (s := ⟨2, ![A, B]⟩) ![o, 0] (⟨2, ![a, B]⟩ : Shape).size inb).emb x) := by
  refine ((congrArg p (eq_ix2 x)).trans (h (x 0) (x 1))).trans ?_
  refine (ld_rows2 G o inb (x 0) (x 1) ⟨o + (x 0).val, _⟩ rfl).symm.trans ?_
  exact congrArg (View.ld G (Rect.unit (s := ⟨2, ![A, B]⟩) ![o, 0] (⟨2, ![a, B]⟩ : Shape).size inb)) (eq_ix2 x).symm

/-- Equal probabilities, values, scales and new value give the same element of the output row. -/
theorem mix_congr {p p' : Fin 193 → EReal} {V V' vs vs' : Fin 192 → EReal} {n n' : EReal} (hp : ∀ t, p t = p' t)
    (hV : ∀ t, V t = V' t) (hs : ∀ t, vs t = vs' t) (hn : n = n') : mix p V vs n = mix p' V' vs' n' := by
  rw [funext hp, funext hV, funext hs, hn]

/-- The 193 scores of query row `r` against head `h`, from the blocks of query rows, new key rows, key codes and key
    scales. -/
def headScore (x0 : Vec Ideal S64x128 .bf16) (x1 : Vec Ideal S16x128 .bf16) (x3 : Vec Ideal S16x192x128 .i8)
    (x4 : Vec Ideal S16x192 .f32) (h : Fin 16) (r : Fin 64) : Fin 193 → EReal :=
  score (fun c => x0 (ix2 r c)) (fun t c => code (x3 (ix3 h t c))) (fun t => x4 (ix2 h t)) (fun c => x1 (ix2 h c))

/-- The output rows at an index: row `r` belongs to head `r / 4`. -/
def blockOut (x0 : Vec Ideal S64x128 .bf16) (x1 x2 : Vec Ideal S16x128 .bf16) (x3 : Vec Ideal S16x192x128 .i8)
    (x4 : Vec Ideal S16x192 .f32) (x5 : Vec Ideal S16x192x128 .i8) (x6 : Vec Ideal S16x192 .f32) (r : Fin 64) (c : Fin 128) : EReal :=
  mix (softmax (headScore x0 x1 x3 x4 ⟨r.val / 4, by omega⟩ r)) (fun t => code (x5 (ix3 (⟨r.val / 4, by omega⟩ : Fin 16) t c)))
    (fun t => x6 (ix2 (⟨r.val / 4, by omega⟩ : Fin 16) t)) (x2 (ix2 (⟨r.val / 4, by omega⟩ : Fin 16) c))

/-- The kept scores at an index: head `h`'s score of token `t` plus its four query rows' probabilities of `t`. -/
def blockMass (x0 : Vec Ideal S64x128 .bf16) (x1 : Vec Ideal S16x128 .bf16) (x3 : Vec Ideal S16x192x128 .i8)
    (x4 x7 : Vec Ideal S16x192 .f32) (h : Fin 16) (t : Fin 192) : EReal :=
  x7 (ix2 h t) + ∑ g : Fin 4, softmax (headScore x0 x1 x3 x4 h ⟨4 * h.val + g.val, by omega⟩) t.castSucc

/-- A group's scores of a row are the head's scores of that row, when the group's pieces are rows of the blocks. -/
theorem rowScore_eq (x0 : Vec Ideal S64x128 .bf16) (x1 : Vec Ideal S16x128 .bf16) (x3 : Vec Ideal S16x192x128 .i8)
    (x4 : Vec Ideal S16x192 .f32) (q : Vec Ideal S16x128 .bf16) (n : Fin 4 → Vec Ideal S1x128 .bf16)
    (k : Fin 4 → Vec Ideal S1x192x128 .i8) (s : Fin 4 → Vec Ideal S1x192 .f32) (r : Fin 16) (H : Fin 16) (R : Fin 64)
    (hq : ∀ c, q (ix2 r c) = x0 (ix2 R c))
    (hn : ∀ c, n ⟨r.val / 4, by omega⟩ (ix2 (0 : Fin 1) c) = x1 (ix2 H c))
    (hk : ∀ t c, k ⟨r.val / 4, by omega⟩ (ix3 (0 : Fin 1) t c) = x3 (ix3 H t c))
    (hs : ∀ t, s ⟨r.val / 4, by omega⟩ (ix2 (0 : Fin 1) t) = x4 (ix2 H t)) :
    rowScore q n k s r = headScore x0 x1 x3 x4 H R := by
  unfold rowScore headScore
  simp only [hq, hn, hk, hs]

/-- The new rows, codes and scales of group 0 are rows 0 to 3 of the blocks they are loaded from. -/
theorem rows0 (x : Vec Ideal S16x128 .bf16) (a : Fin 4) (c : Fin 128) (H : Fin 16) (h : H.val = 0 + a.val) :
    (![View.ld x r0_1, View.ld x r0_4, View.ld x r0_7, View.ld x r0_10] : Fin 4 → Vec Ideal S1x128 .bf16) a (ix2 (0 : Fin 1) c) = x (ix2 H c) := by
  match a with
  | ⟨0, _⟩ => exact ld_rows2 x 0 _ 0 c H h
  | ⟨1, _⟩ => exact ld_rows2 x 1 _ 0 c H h
  | ⟨2, _⟩ => exact ld_rows2 x 2 _ 0 c H h
  | ⟨3, _⟩ => exact ld_rows2 x 3 _ 0 c H h

theorem codes0 (x : Vec Ideal S16x192x128 .i8) (a : Fin 4) (t : Fin 192) (c : Fin 128) (H : Fin 16) (h : H.val = 0 + a.val) :
    (![View.ld x r0_2, View.ld x r0_5, View.ld x r0_8, View.ld x r0_11] : Fin 4 → Vec Ideal S1x192x128 .i8) a (ix3 (0 : Fin 1) t c) = x (ix3 H t c) := by
  match a with
  | ⟨0, _⟩ => exact ld_rows3 x 0 _ 0 t c H h
  | ⟨1, _⟩ => exact ld_rows3 x 1 _ 0 t c H h
  | ⟨2, _⟩ => exact ld_rows3 x 2 _ 0 t c H h
  | ⟨3, _⟩ => exact ld_rows3 x 3 _ 0 t c H h

theorem scales0 (x : Vec Ideal S16x192 .f32) (a : Fin 4) (t : Fin 192) (H : Fin 16) (h : H.val = 0 + a.val) :
    (![View.ld x r0_3, View.ld x r0_6, View.ld x r0_9, View.ld x r0_12] : Fin 4 → Vec Ideal S1x192 .f32) a (ix2 (0 : Fin 1) t) = x (ix2 H t) := by
  match a with
  | ⟨0, _⟩ => exact ld_rows2 x 0 _ 0 t H h
  | ⟨1, _⟩ => exact ld_rows2 x 1 _ 0 t H h
  | ⟨2, _⟩ => exact ld_rows2 x 2 _ 0 t H h
  | ⟨3, _⟩ => exact ld_rows2 x 3 _ 0 t H h

/-- The probabilities of group 0 at an index: row `r` of the group is query row 0 + `r`, of head (0 + `r`) / 4. -/
theorem probs0_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32)
    (r : Fin 16) (t : Fin 193) (H : Fin 16) (R : Fin 64) (hR : R.val = 0 + r.val) (hH : H.val = 0 + r.val / 4) :
    probs0 x0 x1 x2 x3 x4 x5 x6 x7 (ix2 r (⟨t.val, by omega⟩ : Fin 208)) = softmax (headScore x0 x1 x3 x4 H R) t :=
  (probs_apply (View.ld x0 r0_0) ![View.ld x1 r0_1, View.ld x1 r0_4, View.ld x1 r0_7, View.ld x1 r0_10]
    ![View.ld x3 r0_2, View.ld x3 r0_5, View.ld x3 r0_8, View.ld x3 r0_11] ![View.ld x4 r0_3, View.ld x4 r0_6, View.ld x4 r0_9, View.ld x4 r0_12] r t).trans
    (congrArg (fun s => softmax s t) (rowScore_eq x0 x1 x3 x4 _ _ _ _ r H R
      (fun c => ld_rows2 x0 0 _ r c R hR)
      (fun c => rows0 x1 _ c H hH) (fun t c => codes0 x3 _ t c H hH) (fun t => scales0 x4 _ t H hH)))

/-- The output rows of group 0 at an index. -/
theorem out0_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32)
    (r : Fin 16) (c : Fin 128) (R : Fin 64) (hR : R.val = 0 + r.val) :
    out0 x0 x1 x2 x3 x4 x5 x6 x7 (ix2 r c) = blockOut x0 x1 x2 x3 x4 x5 x6 R c := by
  have hH : R.val / 4 = 0 + r.val / 4 := by omega
  refine (gather_apply (probs0 x0 x1 x2 x3 x4 x5 x6 x7) ![View.ld x2 r0_1, View.ld x2 r0_4, View.ld x2 r0_7, View.ld x2 r0_10]
    ![View.ld x5 r0_2, View.ld x5 r0_5, View.ld x5 r0_8, View.ld x5 r0_11] ![View.ld x6 r0_3, View.ld x6 r0_6, View.ld x6 r0_9, View.ld x6 r0_12] r c).trans ?_
  exact mix_congr (fun t => probs0_apply x0 x1 x2 x3 x4 x5 x6 x7 r t ⟨R.val / 4, by omega⟩ R hR hH)
    (fun t => congrArg code (codes0 x5 _ t c ⟨R.val / 4, by omega⟩ hH))
    (fun t => scales0 x6 _ t ⟨R.val / 4, by omega⟩ hH) (rows0 x2 _ c ⟨R.val / 4, by omega⟩ hH)

/-- The new rows, codes and scales of group 1 are rows 4 to 7 of the blocks they are loaded from. -/
theorem rows1 (x : Vec Ideal S16x128 .bf16) (a : Fin 4) (c : Fin 128) (H : Fin 16) (h : H.val = 4 + a.val) :
    (![View.ld x r0_14, View.ld x r0_17, View.ld x r0_20, View.ld x r0_23] : Fin 4 → Vec Ideal S1x128 .bf16) a (ix2 (0 : Fin 1) c) = x (ix2 H c) := by
  match a with
  | ⟨0, _⟩ => exact ld_rows2 x 4 _ 0 c H h
  | ⟨1, _⟩ => exact ld_rows2 x 5 _ 0 c H h
  | ⟨2, _⟩ => exact ld_rows2 x 6 _ 0 c H h
  | ⟨3, _⟩ => exact ld_rows2 x 7 _ 0 c H h

theorem codes1 (x : Vec Ideal S16x192x128 .i8) (a : Fin 4) (t : Fin 192) (c : Fin 128) (H : Fin 16) (h : H.val = 4 + a.val) :
    (![View.ld x r0_15, View.ld x r0_18, View.ld x r0_21, View.ld x r0_24] : Fin 4 → Vec Ideal S1x192x128 .i8) a (ix3 (0 : Fin 1) t c) = x (ix3 H t c) := by
  match a with
  | ⟨0, _⟩ => exact ld_rows3 x 4 _ 0 t c H h
  | ⟨1, _⟩ => exact ld_rows3 x 5 _ 0 t c H h
  | ⟨2, _⟩ => exact ld_rows3 x 6 _ 0 t c H h
  | ⟨3, _⟩ => exact ld_rows3 x 7 _ 0 t c H h

theorem scales1 (x : Vec Ideal S16x192 .f32) (a : Fin 4) (t : Fin 192) (H : Fin 16) (h : H.val = 4 + a.val) :
    (![View.ld x r0_16, View.ld x r0_19, View.ld x r0_22, View.ld x r0_25] : Fin 4 → Vec Ideal S1x192 .f32) a (ix2 (0 : Fin 1) t) = x (ix2 H t) := by
  match a with
  | ⟨0, _⟩ => exact ld_rows2 x 4 _ 0 t H h
  | ⟨1, _⟩ => exact ld_rows2 x 5 _ 0 t H h
  | ⟨2, _⟩ => exact ld_rows2 x 6 _ 0 t H h
  | ⟨3, _⟩ => exact ld_rows2 x 7 _ 0 t H h

/-- The probabilities of group 1 at an index: row `r` of the group is query row 16 + `r`, of head (16 + `r`) / 4. -/
theorem probs1_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32)
    (r : Fin 16) (t : Fin 193) (H : Fin 16) (R : Fin 64) (hR : R.val = 16 + r.val) (hH : H.val = 4 + r.val / 4) :
    probs1 x0 x1 x2 x3 x4 x5 x6 x7 (ix2 r (⟨t.val, by omega⟩ : Fin 208)) = softmax (headScore x0 x1 x3 x4 H R) t :=
  (probs_apply (View.ld x0 r0_13) ![View.ld x1 r0_14, View.ld x1 r0_17, View.ld x1 r0_20, View.ld x1 r0_23]
    ![View.ld x3 r0_15, View.ld x3 r0_18, View.ld x3 r0_21, View.ld x3 r0_24] ![View.ld x4 r0_16, View.ld x4 r0_19, View.ld x4 r0_22, View.ld x4 r0_25] r t).trans
    (congrArg (fun s => softmax s t) (rowScore_eq x0 x1 x3 x4 _ _ _ _ r H R
      (fun c => ld_rows2 x0 16 _ r c R hR)
      (fun c => rows1 x1 _ c H hH) (fun t c => codes1 x3 _ t c H hH) (fun t => scales1 x4 _ t H hH)))

/-- The output rows of group 1 at an index. -/
theorem out1_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32)
    (r : Fin 16) (c : Fin 128) (R : Fin 64) (hR : R.val = 16 + r.val) :
    out1 x0 x1 x2 x3 x4 x5 x6 x7 (ix2 r c) = blockOut x0 x1 x2 x3 x4 x5 x6 R c := by
  have hH : R.val / 4 = 4 + r.val / 4 := by omega
  refine (gather_apply (probs1 x0 x1 x2 x3 x4 x5 x6 x7) ![View.ld x2 r0_14, View.ld x2 r0_17, View.ld x2 r0_20, View.ld x2 r0_23]
    ![View.ld x5 r0_15, View.ld x5 r0_18, View.ld x5 r0_21, View.ld x5 r0_24] ![View.ld x6 r0_16, View.ld x6 r0_19, View.ld x6 r0_22, View.ld x6 r0_25] r c).trans ?_
  exact mix_congr (fun t => probs1_apply x0 x1 x2 x3 x4 x5 x6 x7 r t ⟨R.val / 4, by omega⟩ R hR hH)
    (fun t => congrArg code (codes1 x5 _ t c ⟨R.val / 4, by omega⟩ hH))
    (fun t => scales1 x6 _ t ⟨R.val / 4, by omega⟩ hH) (rows1 x2 _ c ⟨R.val / 4, by omega⟩ hH)

/-- The new rows, codes and scales of group 2 are rows 8 to 11 of the blocks they are loaded from. -/
theorem rows2 (x : Vec Ideal S16x128 .bf16) (a : Fin 4) (c : Fin 128) (H : Fin 16) (h : H.val = 8 + a.val) :
    (![View.ld x r0_27, View.ld x r0_30, View.ld x r0_33, View.ld x r0_36] : Fin 4 → Vec Ideal S1x128 .bf16) a (ix2 (0 : Fin 1) c) = x (ix2 H c) := by
  match a with
  | ⟨0, _⟩ => exact ld_rows2 x 8 _ 0 c H h
  | ⟨1, _⟩ => exact ld_rows2 x 9 _ 0 c H h
  | ⟨2, _⟩ => exact ld_rows2 x 10 _ 0 c H h
  | ⟨3, _⟩ => exact ld_rows2 x 11 _ 0 c H h

theorem codes2 (x : Vec Ideal S16x192x128 .i8) (a : Fin 4) (t : Fin 192) (c : Fin 128) (H : Fin 16) (h : H.val = 8 + a.val) :
    (![View.ld x r0_28, View.ld x r0_31, View.ld x r0_34, View.ld x r0_37] : Fin 4 → Vec Ideal S1x192x128 .i8) a (ix3 (0 : Fin 1) t c) = x (ix3 H t c) := by
  match a with
  | ⟨0, _⟩ => exact ld_rows3 x 8 _ 0 t c H h
  | ⟨1, _⟩ => exact ld_rows3 x 9 _ 0 t c H h
  | ⟨2, _⟩ => exact ld_rows3 x 10 _ 0 t c H h
  | ⟨3, _⟩ => exact ld_rows3 x 11 _ 0 t c H h

theorem scales2 (x : Vec Ideal S16x192 .f32) (a : Fin 4) (t : Fin 192) (H : Fin 16) (h : H.val = 8 + a.val) :
    (![View.ld x r0_29, View.ld x r0_32, View.ld x r0_35, View.ld x r0_38] : Fin 4 → Vec Ideal S1x192 .f32) a (ix2 (0 : Fin 1) t) = x (ix2 H t) := by
  match a with
  | ⟨0, _⟩ => exact ld_rows2 x 8 _ 0 t H h
  | ⟨1, _⟩ => exact ld_rows2 x 9 _ 0 t H h
  | ⟨2, _⟩ => exact ld_rows2 x 10 _ 0 t H h
  | ⟨3, _⟩ => exact ld_rows2 x 11 _ 0 t H h

/-- The probabilities of group 2 at an index: row `r` of the group is query row 32 + `r`, of head (32 + `r`) / 4. -/
theorem probs2_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32)
    (r : Fin 16) (t : Fin 193) (H : Fin 16) (R : Fin 64) (hR : R.val = 32 + r.val) (hH : H.val = 8 + r.val / 4) :
    probs2 x0 x1 x2 x3 x4 x5 x6 x7 (ix2 r (⟨t.val, by omega⟩ : Fin 208)) = softmax (headScore x0 x1 x3 x4 H R) t :=
  (probs_apply (View.ld x0 r0_26) ![View.ld x1 r0_27, View.ld x1 r0_30, View.ld x1 r0_33, View.ld x1 r0_36]
    ![View.ld x3 r0_28, View.ld x3 r0_31, View.ld x3 r0_34, View.ld x3 r0_37] ![View.ld x4 r0_29, View.ld x4 r0_32, View.ld x4 r0_35, View.ld x4 r0_38] r t).trans
    (congrArg (fun s => softmax s t) (rowScore_eq x0 x1 x3 x4 _ _ _ _ r H R
      (fun c => ld_rows2 x0 32 _ r c R hR)
      (fun c => rows2 x1 _ c H hH) (fun t c => codes2 x3 _ t c H hH) (fun t => scales2 x4 _ t H hH)))

/-- The output rows of group 2 at an index. -/
theorem out2_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32)
    (r : Fin 16) (c : Fin 128) (R : Fin 64) (hR : R.val = 32 + r.val) :
    out2 x0 x1 x2 x3 x4 x5 x6 x7 (ix2 r c) = blockOut x0 x1 x2 x3 x4 x5 x6 R c := by
  have hH : R.val / 4 = 8 + r.val / 4 := by omega
  refine (gather_apply (probs2 x0 x1 x2 x3 x4 x5 x6 x7) ![View.ld x2 r0_27, View.ld x2 r0_30, View.ld x2 r0_33, View.ld x2 r0_36]
    ![View.ld x5 r0_28, View.ld x5 r0_31, View.ld x5 r0_34, View.ld x5 r0_37] ![View.ld x6 r0_29, View.ld x6 r0_32, View.ld x6 r0_35, View.ld x6 r0_38] r c).trans ?_
  exact mix_congr (fun t => probs2_apply x0 x1 x2 x3 x4 x5 x6 x7 r t ⟨R.val / 4, by omega⟩ R hR hH)
    (fun t => congrArg code (codes2 x5 _ t c ⟨R.val / 4, by omega⟩ hH))
    (fun t => scales2 x6 _ t ⟨R.val / 4, by omega⟩ hH) (rows2 x2 _ c ⟨R.val / 4, by omega⟩ hH)

/-- The new rows, codes and scales of group 3 are rows 12 to 15 of the blocks they are loaded from. -/
theorem rows3 (x : Vec Ideal S16x128 .bf16) (a : Fin 4) (c : Fin 128) (H : Fin 16) (h : H.val = 12 + a.val) :
    (![View.ld x r0_40, View.ld x r0_43, View.ld x r0_46, View.ld x r0_49] : Fin 4 → Vec Ideal S1x128 .bf16) a (ix2 (0 : Fin 1) c) = x (ix2 H c) := by
  match a with
  | ⟨0, _⟩ => exact ld_rows2 x 12 _ 0 c H h
  | ⟨1, _⟩ => exact ld_rows2 x 13 _ 0 c H h
  | ⟨2, _⟩ => exact ld_rows2 x 14 _ 0 c H h
  | ⟨3, _⟩ => exact ld_rows2 x 15 _ 0 c H h

theorem codes3 (x : Vec Ideal S16x192x128 .i8) (a : Fin 4) (t : Fin 192) (c : Fin 128) (H : Fin 16) (h : H.val = 12 + a.val) :
    (![View.ld x r0_41, View.ld x r0_44, View.ld x r0_47, View.ld x r0_50] : Fin 4 → Vec Ideal S1x192x128 .i8) a (ix3 (0 : Fin 1) t c) = x (ix3 H t c) := by
  match a with
  | ⟨0, _⟩ => exact ld_rows3 x 12 _ 0 t c H h
  | ⟨1, _⟩ => exact ld_rows3 x 13 _ 0 t c H h
  | ⟨2, _⟩ => exact ld_rows3 x 14 _ 0 t c H h
  | ⟨3, _⟩ => exact ld_rows3 x 15 _ 0 t c H h

theorem scales3 (x : Vec Ideal S16x192 .f32) (a : Fin 4) (t : Fin 192) (H : Fin 16) (h : H.val = 12 + a.val) :
    (![View.ld x r0_42, View.ld x r0_45, View.ld x r0_48, View.ld x r0_51] : Fin 4 → Vec Ideal S1x192 .f32) a (ix2 (0 : Fin 1) t) = x (ix2 H t) := by
  match a with
  | ⟨0, _⟩ => exact ld_rows2 x 12 _ 0 t H h
  | ⟨1, _⟩ => exact ld_rows2 x 13 _ 0 t H h
  | ⟨2, _⟩ => exact ld_rows2 x 14 _ 0 t H h
  | ⟨3, _⟩ => exact ld_rows2 x 15 _ 0 t H h

/-- The probabilities of group 3 at an index: row `r` of the group is query row 48 + `r`, of head (48 + `r`) / 4. -/
theorem probs3_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32)
    (r : Fin 16) (t : Fin 193) (H : Fin 16) (R : Fin 64) (hR : R.val = 48 + r.val) (hH : H.val = 12 + r.val / 4) :
    probs3 x0 x1 x2 x3 x4 x5 x6 x7 (ix2 r (⟨t.val, by omega⟩ : Fin 208)) = softmax (headScore x0 x1 x3 x4 H R) t :=
  (probs_apply (View.ld x0 r0_39) ![View.ld x1 r0_40, View.ld x1 r0_43, View.ld x1 r0_46, View.ld x1 r0_49]
    ![View.ld x3 r0_41, View.ld x3 r0_44, View.ld x3 r0_47, View.ld x3 r0_50] ![View.ld x4 r0_42, View.ld x4 r0_45, View.ld x4 r0_48, View.ld x4 r0_51] r t).trans
    (congrArg (fun s => softmax s t) (rowScore_eq x0 x1 x3 x4 _ _ _ _ r H R
      (fun c => ld_rows2 x0 48 _ r c R hR)
      (fun c => rows3 x1 _ c H hH) (fun t c => codes3 x3 _ t c H hH) (fun t => scales3 x4 _ t H hH)))

/-- The output rows of group 3 at an index. -/
theorem out3_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32)
    (r : Fin 16) (c : Fin 128) (R : Fin 64) (hR : R.val = 48 + r.val) :
    out3 x0 x1 x2 x3 x4 x5 x6 x7 (ix2 r c) = blockOut x0 x1 x2 x3 x4 x5 x6 R c := by
  have hH : R.val / 4 = 12 + r.val / 4 := by omega
  refine (gather_apply (probs3 x0 x1 x2 x3 x4 x5 x6 x7) ![View.ld x2 r0_40, View.ld x2 r0_43, View.ld x2 r0_46, View.ld x2 r0_49]
    ![View.ld x5 r0_41, View.ld x5 r0_44, View.ld x5 r0_47, View.ld x5 r0_50] ![View.ld x6 r0_42, View.ld x6 r0_45, View.ld x6 r0_48, View.ld x6 r0_51] r c).trans ?_
  exact mix_congr (fun t => probs3_apply x0 x1 x2 x3 x4 x5 x6 x7 r t ⟨R.val / 4, by omega⟩ R hR hH)
    (fun t => congrArg code (codes3 x5 _ t c ⟨R.val / 4, by omega⟩ hH))
    (fun t => scales3 x6 _ t ⟨R.val / 4, by omega⟩ hH) (rows3 x2 _ c ⟨R.val / 4, by omega⟩ hH)

/-- The first block: at every index the mathematics of the input blocks. -/
theorem out8_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (y : S64x128.Idx) :
    out0_8 x0 x1 x2 x3 x4 x5 x6 x7 y = blockOut x0 x1 x2 x3 x4 x5 x6 (y 0) (y 1) := by
  rw [out0_8_eq]
  refine View.canon_apply_of_pieces (Val := Elt Ideal) (e := .bf16) (fun y : S64x128.Idx => blockOut x0 x1 x2 x3 x4 x5 x6 (y 0) (y 1)) _ ?_ y (cover0_8 _ _ _ _ y)
  simp only [List.forall_mem_cons]
  refine ⟨?_, ?_, ?_, ?_, fun p hp => absurd hp List.not_mem_nil⟩

  · exact stored_rows (e := .bf16) (fun y : S64x128.Idx => blockOut x0 x1 x2 x3 x4 x5 x6 (y 0) (y 1)) 48 (by omega) _ _ fun r c =>
      out3_apply x0 x1 x2 x3 x4 x5 x6 x7 r c _ rfl
  · exact stored_rows (e := .bf16) (fun y : S64x128.Idx => blockOut x0 x1 x2 x3 x4 x5 x6 (y 0) (y 1)) 32 (by omega) _ _ fun r c =>
      out2_apply x0 x1 x2 x3 x4 x5 x6 x7 r c _ rfl
  · exact stored_rows (e := .bf16) (fun y : S64x128.Idx => blockOut x0 x1 x2 x3 x4 x5 x6 (y 0) (y 1)) 16 (by omega) _ _ fun r c =>
      out1_apply x0 x1 x2 x3 x4 x5 x6 x7 r c _ rfl
  · exact stored_rows (e := .bf16) (fun y : S64x128.Idx => blockOut x0 x1 x2 x3 x4 x5 x6 (y 0) (y 1)) 0 (by omega) _ _ fun r c =>
      out0_apply x0 x1 x2 x3 x4 x5 x6 x7 r c _ rfl

/-- The kept scores of head 0 at an index. -/
theorem mass_0_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass0 (probs0 x0 x1 x2 x3 x4 x5 x6 x7) (View.ld x7 r0_3) (ix2 (0 : Fin 1) t) = blockMass x0 x1 x3 x4 x7 0 t := by
  rw [mass0_apply, ld_rows2 x7 0 _ 0 t 0 rfl]
  refine congrArg (x7 (ix2 0 t) + ·) (Finset.sum_congr rfl fun g _ => ?_)
  exact probs0_apply x0 x1 x2 x3 x4 x5 x6 x7 ⟨0 + g.val, by omega⟩ t.castSucc 0 ⟨4 * 0 + g.val, by omega⟩ (by show 4 * 0 + g.val = 0 + (0 + g.val); omega)
    (by show 0 = 0 + (0 + g.val) / 4; omega)

/-- The kept scores of head 4 at an index. -/
theorem mass_4_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass0 (probs1 x0 x1 x2 x3 x4 x5 x6 x7) (View.ld x7 r0_16) (ix2 (0 : Fin 1) t) = blockMass x0 x1 x3 x4 x7 4 t := by
  rw [mass0_apply, ld_rows2 x7 4 _ 0 t 4 rfl]
  refine congrArg (x7 (ix2 4 t) + ·) (Finset.sum_congr rfl fun g _ => ?_)
  exact probs1_apply x0 x1 x2 x3 x4 x5 x6 x7 ⟨0 + g.val, by omega⟩ t.castSucc 4 ⟨4 * 4 + g.val, by omega⟩ (by show 4 * 4 + g.val = 16 + (0 + g.val); omega)
    (by show 4 = 4 + (0 + g.val) / 4; omega)

/-- The kept scores of head 8 at an index. -/
theorem mass_8_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass0 (probs2 x0 x1 x2 x3 x4 x5 x6 x7) (View.ld x7 r0_29) (ix2 (0 : Fin 1) t) = blockMass x0 x1 x3 x4 x7 8 t := by
  rw [mass0_apply, ld_rows2 x7 8 _ 0 t 8 rfl]
  refine congrArg (x7 (ix2 8 t) + ·) (Finset.sum_congr rfl fun g _ => ?_)
  exact probs2_apply x0 x1 x2 x3 x4 x5 x6 x7 ⟨0 + g.val, by omega⟩ t.castSucc 8 ⟨4 * 8 + g.val, by omega⟩ (by show 4 * 8 + g.val = 32 + (0 + g.val); omega)
    (by show 8 = 8 + (0 + g.val) / 4; omega)

/-- The kept scores of head 12 at an index. -/
theorem mass_12_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass0 (probs3 x0 x1 x2 x3 x4 x5 x6 x7) (View.ld x7 r0_42) (ix2 (0 : Fin 1) t) = blockMass x0 x1 x3 x4 x7 12 t := by
  rw [mass0_apply, ld_rows2 x7 12 _ 0 t 12 rfl]
  refine congrArg (x7 (ix2 12 t) + ·) (Finset.sum_congr rfl fun g _ => ?_)
  exact probs3_apply x0 x1 x2 x3 x4 x5 x6 x7 ⟨0 + g.val, by omega⟩ t.castSucc 12 ⟨4 * 12 + g.val, by omega⟩ (by show 4 * 12 + g.val = 48 + (0 + g.val); omega)
    (by show 12 = 12 + (0 + g.val) / 4; omega)

/-- The kept scores of head 1 at an index. -/
theorem mass_1_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass1 (probs0 x0 x1 x2 x3 x4 x5 x6 x7) (View.ld x7 r0_6) (ix2 (0 : Fin 1) t) = blockMass x0 x1 x3 x4 x7 1 t := by
  rw [mass1_apply, ld_rows2 x7 1 _ 0 t 1 rfl]
  refine congrArg (x7 (ix2 1 t) + ·) (Finset.sum_congr rfl fun g _ => ?_)
  exact probs0_apply x0 x1 x2 x3 x4 x5 x6 x7 ⟨4 + g.val, by omega⟩ t.castSucc 1 ⟨4 * 1 + g.val, by omega⟩ (by show 4 * 1 + g.val = 0 + (4 + g.val); omega)
    (by show 1 = 0 + (4 + g.val) / 4; omega)

/-- The kept scores of head 5 at an index. -/
theorem mass_5_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass1 (probs1 x0 x1 x2 x3 x4 x5 x6 x7) (View.ld x7 r0_19) (ix2 (0 : Fin 1) t) = blockMass x0 x1 x3 x4 x7 5 t := by
  rw [mass1_apply, ld_rows2 x7 5 _ 0 t 5 rfl]
  refine congrArg (x7 (ix2 5 t) + ·) (Finset.sum_congr rfl fun g _ => ?_)
  exact probs1_apply x0 x1 x2 x3 x4 x5 x6 x7 ⟨4 + g.val, by omega⟩ t.castSucc 5 ⟨4 * 5 + g.val, by omega⟩ (by show 4 * 5 + g.val = 16 + (4 + g.val); omega)
    (by show 5 = 4 + (4 + g.val) / 4; omega)

/-- The kept scores of head 9 at an index. -/
theorem mass_9_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass1 (probs2 x0 x1 x2 x3 x4 x5 x6 x7) (View.ld x7 r0_32) (ix2 (0 : Fin 1) t) = blockMass x0 x1 x3 x4 x7 9 t := by
  rw [mass1_apply, ld_rows2 x7 9 _ 0 t 9 rfl]
  refine congrArg (x7 (ix2 9 t) + ·) (Finset.sum_congr rfl fun g _ => ?_)
  exact probs2_apply x0 x1 x2 x3 x4 x5 x6 x7 ⟨4 + g.val, by omega⟩ t.castSucc 9 ⟨4 * 9 + g.val, by omega⟩ (by show 4 * 9 + g.val = 32 + (4 + g.val); omega)
    (by show 9 = 8 + (4 + g.val) / 4; omega)

/-- The kept scores of head 13 at an index. -/
theorem mass_13_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass1 (probs3 x0 x1 x2 x3 x4 x5 x6 x7) (View.ld x7 r0_45) (ix2 (0 : Fin 1) t) = blockMass x0 x1 x3 x4 x7 13 t := by
  rw [mass1_apply, ld_rows2 x7 13 _ 0 t 13 rfl]
  refine congrArg (x7 (ix2 13 t) + ·) (Finset.sum_congr rfl fun g _ => ?_)
  exact probs3_apply x0 x1 x2 x3 x4 x5 x6 x7 ⟨4 + g.val, by omega⟩ t.castSucc 13 ⟨4 * 13 + g.val, by omega⟩ (by show 4 * 13 + g.val = 48 + (4 + g.val); omega)
    (by show 13 = 12 + (4 + g.val) / 4; omega)

/-- The kept scores of head 2 at an index. -/
theorem mass_2_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass2 (probs0 x0 x1 x2 x3 x4 x5 x6 x7) (View.ld x7 r0_9) (ix2 (0 : Fin 1) t) = blockMass x0 x1 x3 x4 x7 2 t := by
  rw [mass2_apply, ld_rows2 x7 2 _ 0 t 2 rfl]
  refine congrArg (x7 (ix2 2 t) + ·) (Finset.sum_congr rfl fun g _ => ?_)
  exact probs0_apply x0 x1 x2 x3 x4 x5 x6 x7 ⟨8 + g.val, by omega⟩ t.castSucc 2 ⟨4 * 2 + g.val, by omega⟩ (by show 4 * 2 + g.val = 0 + (8 + g.val); omega)
    (by show 2 = 0 + (8 + g.val) / 4; omega)

/-- The kept scores of head 6 at an index. -/
theorem mass_6_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass2 (probs1 x0 x1 x2 x3 x4 x5 x6 x7) (View.ld x7 r0_22) (ix2 (0 : Fin 1) t) = blockMass x0 x1 x3 x4 x7 6 t := by
  rw [mass2_apply, ld_rows2 x7 6 _ 0 t 6 rfl]
  refine congrArg (x7 (ix2 6 t) + ·) (Finset.sum_congr rfl fun g _ => ?_)
  exact probs1_apply x0 x1 x2 x3 x4 x5 x6 x7 ⟨8 + g.val, by omega⟩ t.castSucc 6 ⟨4 * 6 + g.val, by omega⟩ (by show 4 * 6 + g.val = 16 + (8 + g.val); omega)
    (by show 6 = 4 + (8 + g.val) / 4; omega)

/-- The kept scores of head 10 at an index. -/
theorem mass_10_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass2 (probs2 x0 x1 x2 x3 x4 x5 x6 x7) (View.ld x7 r0_35) (ix2 (0 : Fin 1) t) = blockMass x0 x1 x3 x4 x7 10 t := by
  rw [mass2_apply, ld_rows2 x7 10 _ 0 t 10 rfl]
  refine congrArg (x7 (ix2 10 t) + ·) (Finset.sum_congr rfl fun g _ => ?_)
  exact probs2_apply x0 x1 x2 x3 x4 x5 x6 x7 ⟨8 + g.val, by omega⟩ t.castSucc 10 ⟨4 * 10 + g.val, by omega⟩ (by show 4 * 10 + g.val = 32 + (8 + g.val); omega)
    (by show 10 = 8 + (8 + g.val) / 4; omega)

/-- The kept scores of head 14 at an index. -/
theorem mass_14_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass2 (probs3 x0 x1 x2 x3 x4 x5 x6 x7) (View.ld x7 r0_48) (ix2 (0 : Fin 1) t) = blockMass x0 x1 x3 x4 x7 14 t := by
  rw [mass2_apply, ld_rows2 x7 14 _ 0 t 14 rfl]
  refine congrArg (x7 (ix2 14 t) + ·) (Finset.sum_congr rfl fun g _ => ?_)
  exact probs3_apply x0 x1 x2 x3 x4 x5 x6 x7 ⟨8 + g.val, by omega⟩ t.castSucc 14 ⟨4 * 14 + g.val, by omega⟩ (by show 4 * 14 + g.val = 48 + (8 + g.val); omega)
    (by show 14 = 12 + (8 + g.val) / 4; omega)

/-- The kept scores of head 3 at an index. -/
theorem mass_3_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass3 (probs0 x0 x1 x2 x3 x4 x5 x6 x7) (View.ld x7 r0_12) (ix2 (0 : Fin 1) t) = blockMass x0 x1 x3 x4 x7 3 t := by
  rw [mass3_apply, ld_rows2 x7 3 _ 0 t 3 rfl]
  refine congrArg (x7 (ix2 3 t) + ·) (Finset.sum_congr rfl fun g _ => ?_)
  exact probs0_apply x0 x1 x2 x3 x4 x5 x6 x7 ⟨12 + g.val, by omega⟩ t.castSucc 3 ⟨4 * 3 + g.val, by omega⟩ (by show 4 * 3 + g.val = 0 + (12 + g.val); omega)
    (by show 3 = 0 + (12 + g.val) / 4; omega)

/-- The kept scores of head 7 at an index. -/
theorem mass_7_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass3 (probs1 x0 x1 x2 x3 x4 x5 x6 x7) (View.ld x7 r0_25) (ix2 (0 : Fin 1) t) = blockMass x0 x1 x3 x4 x7 7 t := by
  rw [mass3_apply, ld_rows2 x7 7 _ 0 t 7 rfl]
  refine congrArg (x7 (ix2 7 t) + ·) (Finset.sum_congr rfl fun g _ => ?_)
  exact probs1_apply x0 x1 x2 x3 x4 x5 x6 x7 ⟨12 + g.val, by omega⟩ t.castSucc 7 ⟨4 * 7 + g.val, by omega⟩ (by show 4 * 7 + g.val = 16 + (12 + g.val); omega)
    (by show 7 = 4 + (12 + g.val) / 4; omega)

/-- The kept scores of head 11 at an index. -/
theorem mass_11_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass3 (probs2 x0 x1 x2 x3 x4 x5 x6 x7) (View.ld x7 r0_38) (ix2 (0 : Fin 1) t) = blockMass x0 x1 x3 x4 x7 11 t := by
  rw [mass3_apply, ld_rows2 x7 11 _ 0 t 11 rfl]
  refine congrArg (x7 (ix2 11 t) + ·) (Finset.sum_congr rfl fun g _ => ?_)
  exact probs2_apply x0 x1 x2 x3 x4 x5 x6 x7 ⟨12 + g.val, by omega⟩ t.castSucc 11 ⟨4 * 11 + g.val, by omega⟩ (by show 4 * 11 + g.val = 32 + (12 + g.val); omega)
    (by show 11 = 8 + (12 + g.val) / 4; omega)

/-- The kept scores of head 15 at an index. -/
theorem mass_15_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (t : Fin 192) :
    mass3 (probs3 x0 x1 x2 x3 x4 x5 x6 x7) (View.ld x7 r0_51) (ix2 (0 : Fin 1) t) = blockMass x0 x1 x3 x4 x7 15 t := by
  rw [mass3_apply, ld_rows2 x7 15 _ 0 t 15 rfl]
  refine congrArg (x7 (ix2 15 t) + ·) (Finset.sum_congr rfl fun g _ => ?_)
  exact probs3_apply x0 x1 x2 x3 x4 x5 x6 x7 ⟨12 + g.val, by omega⟩ t.castSucc 15 ⟨4 * 15 + g.val, by omega⟩ (by show 4 * 15 + g.val = 48 + (12 + g.val); omega)
    (by show 15 = 12 + (12 + g.val) / 4; omega)

/-- The second block: at every index the mathematics of the input blocks. -/
theorem out9_apply (x0 : Vec Ideal S64x128 .bf16) (x1 x2 : Vec Ideal S16x128 .bf16) (x3 : Vec Ideal S16x192x128 .i8)
    (x4 : Vec Ideal S16x192 .f32) (x5 : Vec Ideal S16x192x128 .i8) (x6 x7 : Vec Ideal S16x192 .f32) (y : S16x192.Idx) :
    out0_9 x0 x1 x2 x3 x4 x5 x6 x7 y = blockMass x0 x1 x3 x4 x7 (y 0) (y 1) := by
  rw [out0_9_eq]
  refine View.canon_apply_of_pieces (Val := Elt Ideal) (e := .f32) (fun y : S16x192.Idx => blockMass x0 x1 x3 x4 x7 (y 0) (y 1)) _ ?_ y
    (cover0_9 _ _ _ _ _ _ _ _ _ _ _ _ _ _ _ _ y)
  simp only [List.forall_mem_cons]
  refine ⟨?_, ?_, ?_, ?_, ?_, ?_, ?_, ?_, ?_, ?_, ?_, ?_, ?_, ?_, ?_, ?_, fun p hp => absurd hp List.not_mem_nil⟩

  · exact stored_rows (e := .f32) (fun y : S16x192.Idx => blockMass x0 x1 x3 x4 x7 (y 0) (y 1)) 15 (by omega) _ _ fun r c => by
      rw [Fin.fin_one_eq_zero r]; exact mass_15_apply x0 x1 x2 x3 x4 x5 x6 x7 c
  · exact stored_rows (e := .f32) (fun y : S16x192.Idx => blockMass x0 x1 x3 x4 x7 (y 0) (y 1)) 14 (by omega) _ _ fun r c => by
      rw [Fin.fin_one_eq_zero r]; exact mass_14_apply x0 x1 x2 x3 x4 x5 x6 x7 c
  · exact stored_rows (e := .f32) (fun y : S16x192.Idx => blockMass x0 x1 x3 x4 x7 (y 0) (y 1)) 13 (by omega) _ _ fun r c => by
      rw [Fin.fin_one_eq_zero r]; exact mass_13_apply x0 x1 x2 x3 x4 x5 x6 x7 c
  · exact stored_rows (e := .f32) (fun y : S16x192.Idx => blockMass x0 x1 x3 x4 x7 (y 0) (y 1)) 12 (by omega) _ _ fun r c => by
      rw [Fin.fin_one_eq_zero r]; exact mass_12_apply x0 x1 x2 x3 x4 x5 x6 x7 c
  · exact stored_rows (e := .f32) (fun y : S16x192.Idx => blockMass x0 x1 x3 x4 x7 (y 0) (y 1)) 11 (by omega) _ _ fun r c => by
      rw [Fin.fin_one_eq_zero r]; exact mass_11_apply x0 x1 x2 x3 x4 x5 x6 x7 c
  · exact stored_rows (e := .f32) (fun y : S16x192.Idx => blockMass x0 x1 x3 x4 x7 (y 0) (y 1)) 10 (by omega) _ _ fun r c => by
      rw [Fin.fin_one_eq_zero r]; exact mass_10_apply x0 x1 x2 x3 x4 x5 x6 x7 c
  · exact stored_rows (e := .f32) (fun y : S16x192.Idx => blockMass x0 x1 x3 x4 x7 (y 0) (y 1)) 9 (by omega) _ _ fun r c => by
      rw [Fin.fin_one_eq_zero r]; exact mass_9_apply x0 x1 x2 x3 x4 x5 x6 x7 c
  · exact stored_rows (e := .f32) (fun y : S16x192.Idx => blockMass x0 x1 x3 x4 x7 (y 0) (y 1)) 8 (by omega) _ _ fun r c => by
      rw [Fin.fin_one_eq_zero r]; exact mass_8_apply x0 x1 x2 x3 x4 x5 x6 x7 c
  · exact stored_rows (e := .f32) (fun y : S16x192.Idx => blockMass x0 x1 x3 x4 x7 (y 0) (y 1)) 7 (by omega) _ _ fun r c => by
      rw [Fin.fin_one_eq_zero r]; exact mass_7_apply x0 x1 x2 x3 x4 x5 x6 x7 c
  · exact stored_rows (e := .f32) (fun y : S16x192.Idx => blockMass x0 x1 x3 x4 x7 (y 0) (y 1)) 6 (by omega) _ _ fun r c => by
      rw [Fin.fin_one_eq_zero r]; exact mass_6_apply x0 x1 x2 x3 x4 x5 x6 x7 c
  · exact stored_rows (e := .f32) (fun y : S16x192.Idx => blockMass x0 x1 x3 x4 x7 (y 0) (y 1)) 5 (by omega) _ _ fun r c => by
      rw [Fin.fin_one_eq_zero r]; exact mass_5_apply x0 x1 x2 x3 x4 x5 x6 x7 c
  · exact stored_rows (e := .f32) (fun y : S16x192.Idx => blockMass x0 x1 x3 x4 x7 (y 0) (y 1)) 4 (by omega) _ _ fun r c => by
      rw [Fin.fin_one_eq_zero r]; exact mass_4_apply x0 x1 x2 x3 x4 x5 x6 x7 c
  · exact stored_rows (e := .f32) (fun y : S16x192.Idx => blockMass x0 x1 x3 x4 x7 (y 0) (y 1)) 3 (by omega) _ _ fun r c => by
      rw [Fin.fin_one_eq_zero r]; exact mass_3_apply x0 x1 x2 x3 x4 x5 x6 x7 c
  · exact stored_rows (e := .f32) (fun y : S16x192.Idx => blockMass x0 x1 x3 x4 x7 (y 0) (y 1)) 2 (by omega) _ _ fun r c => by
      rw [Fin.fin_one_eq_zero r]; exact mass_2_apply x0 x1 x2 x3 x4 x5 x6 x7 c
  · exact stored_rows (e := .f32) (fun y : S16x192.Idx => blockMass x0 x1 x3 x4 x7 (y 0) (y 1)) 1 (by omega) _ _ fun r c => by
      rw [Fin.fin_one_eq_zero r]; exact mass_1_apply x0 x1 x2 x3 x4 x5 x6 x7 c
  · exact stored_rows (e := .f32) (fun y : S16x192.Idx => blockMass x0 x1 x3 x4 x7 (y 0) (y 1)) 0 (by omega) _ _ fun r c => by
      rw [Fin.fin_one_eq_zero r]; exact mass_0_apply x0 x1 x2 x3 x4 x5 x6 x7 c

end Cert.KernelIdeal.Quad
-- ==== Proof.Attn.lean ====
/- The two results as functions of the eight argument arrays: the attention step's output rows and the kept scores,
   stated through the mathematics of one query row. -/
module

public import proofs.«01_k».proof.Proof.Math

@[expose] public section

noncomputable section

namespace Cert.Math

open Idealize.ShloMosaic

/-- The 193 scores of query row `r` of batch entry `b` against head `h`. -/
def rowScores (q : Vec Ideal ⟨4, ![64, 1, 64, 128]⟩ .bf16) (kn : Vec Ideal ⟨4, ![64, 1, 16, 128]⟩ .bf16)
    (kk : Vec Ideal ⟨4, ![64, 16, 192, 128]⟩ .i8) (ks : Vec Ideal ⟨3, ![64, 16, 192]⟩ .f32)
    (b : Fin 64) (h : Fin 16) (r : Fin 64) : Fin 193 → EReal :=
  score (fun c => q (ix4 b (0 : Fin 1) r c)) (fun t c => code (kk (ix4 b h t c))) (fun t => ks (ix3 b h t))
    (fun c => kn (ix4 b (0 : Fin 1) h c))

/-- The output of query row `r` of batch entry `b` at column `c`; the row belongs to head `r / 4`. -/
def attendAt (q : Vec Ideal ⟨4, ![64, 1, 64, 128]⟩ .bf16) (kn vn : Vec Ideal ⟨4, ![64, 1, 16, 128]⟩ .bf16)
    (kk : Vec Ideal ⟨4, ![64, 16, 192, 128]⟩ .i8) (ks : Vec Ideal ⟨3, ![64, 16, 192]⟩ .f32)
    (vk : Vec Ideal ⟨4, ![64, 16, 192, 128]⟩ .i8) (vs : Vec Ideal ⟨3, ![64, 16, 192]⟩ .f32)
    (b r : Fin 64) (h : Fin 16) (c : Fin 128) : EReal :=
  mix (softmax (rowScores q kn kk ks b h r)) (fun t => code (vk (ix4 b h t c))) (fun t => vs (ix3 b h t))
    (vn (ix4 b (0 : Fin 1) h c))

/-- The new kept score of token `t` of head `h` of batch entry `b`: the old one plus the probabilities the head's four
    query rows give the token. -/
def massAt (q : Vec Ideal ⟨4, ![64, 1, 64, 128]⟩ .bf16) (kn : Vec Ideal ⟨4, ![64, 1, 16, 128]⟩ .bf16)
    (kk : Vec Ideal ⟨4, ![64, 16, 192, 128]⟩ .i8) (ks s0 : Vec Ideal ⟨3, ![64, 16, 192]⟩ .f32)
    (b : Fin 64) (h : Fin 16) (t : Fin 192) : EReal :=
  s0 (ix3 b h t) + ∑ g : Fin 4, softmax (rowScores q kn kk ks b h ⟨4 * h.val + g.val, by omega⟩) t.castSucc

/-- The first result: row `64 b + r` is query row `r` of batch entry `b`. -/
def attended (q : Vec Ideal ⟨4, ![64, 1, 64, 128]⟩ .bf16) (kn vn : Vec Ideal ⟨4, ![64, 1, 16, 128]⟩ .bf16)
    (kk : Vec Ideal ⟨4, ![64, 16, 192, 128]⟩ .i8) (ks : Vec Ideal ⟨3, ![64, 16, 192]⟩ .f32)
    (vk : Vec Ideal ⟨4, ![64, 16, 192, 128]⟩ .i8) (vs : Vec Ideal ⟨3, ![64, 16, 192]⟩ .f32) :
    Vec Ideal ⟨2, ![4096, 128]⟩ .bf16 := fun y =>
  have h0 : (y 0).val < 4096 := (y 0).isLt
  attendAt q kn vn kk ks vk vs ⟨(y 0).val / 64, by omega⟩ ⟨(y 0).val % 64, by omega⟩ ⟨(y 0).val % 64 / 4, by omega⟩ (y 1)

/-- The second result: row `16 b + h` is head `h` of batch entry `b`. -/
def massed (q : Vec Ideal ⟨4, ![64, 1, 64, 128]⟩ .bf16) (kn : Vec Ideal ⟨4, ![64, 1, 16, 128]⟩ .bf16)
    (kk : Vec Ideal ⟨4, ![64, 16, 192, 128]⟩ .i8) (ks s0 : Vec Ideal ⟨3, ![64, 16, 192]⟩ .f32) :
    Vec Ideal ⟨2, ![1024, 192]⟩ .f32 := fun y =>
  have h0 : (y 0).val < 1024 := (y 0).isLt
  massAt q kn kk ks s0 ⟨(y 0).val / 16, by omega⟩ ⟨(y 0).val % 16, by omega⟩ (y 1)

end Cert.Math
-- ==== Proof.Arrays.lean ====
/- The kernel run's two result arrays as functions of the argument arrays: the blocks the grid points fetch read off
   the reshaped arguments, the blocks they write back assembled into whole arrays. -/
module

public import proofs.«01_k».proof.Proof.Block
public import proofs.«01_k».proof.Proof.Attn
public import proofs.«01_k».proof.Proof.Gen.KernelIdeal.Value

@[expose] public section

set_option maxRecDepth 16384

noncomputable section

namespace Cert.KernelIdeal.Arrays

open Cert.KernelIdeal Cert.KernelIdeal.Gen Cert.KernelIdeal.Quad Cert.Math
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region finds argument 0 reshaped. -/
theorem V_main_v0 (c : Dev nD) : V m c main_v0 = shapeCast _ (m ((c : Thread nD τ).loc main_arg0)) shapeCasts_S64x1x64x128_S4096x128 := by
  show StableHlo.after hostOps0 (fun b => m (c, b)) (Proc.devRef .tc main_v0) = _
  after_results
  rfl

/-- The region finds argument 1 reshaped. -/
theorem V_main_v1 (c : Dev nD) : V m c main_v1 = shapeCast _ (m ((c : Thread nD τ).loc main_arg1)) shapeCasts_S64x1x16x128_S1024x128 := by
  show StableHlo.after hostOps0 (fun b => m (c, b)) (Proc.devRef .tc main_v1) = _
  after_results
  rfl

/-- The region finds argument 2 reshaped. -/
theorem V_main_v2 (c : Dev nD) : V m c main_v2 = shapeCast _ (m ((c : Thread nD τ).loc main_arg2)) shapeCasts_S64x1x16x128_S1024x128 := by
  show StableHlo.after hostOps0 (fun b => m (c, b)) (Proc.devRef .tc main_v2) = _
  after_results
  rfl

/-- The region finds argument 3 reshaped. -/
theorem V_main_v3 (c : Dev nD) : V m c main_v3 = shapeCast _ (m ((c : Thread nD τ).loc main_arg3)) shapeCasts_S64x16x192x128_S1024x192x128 := by
  show StableHlo.after hostOps0 (fun b => m (c, b)) (Proc.devRef .tc main_v3) = _
  after_results
  rfl

/-- The region finds argument 4 reshaped. -/
theorem V_main_v4 (c : Dev nD) : V m c main_v4 = shapeCast _ (m ((c : Thread nD τ).loc main_arg4)) shapeCasts_S64x16x192_S1024x192 := by
  show StableHlo.after hostOps0 (fun b => m (c, b)) (Proc.devRef .tc main_v4) = _
  after_results
  rfl

/-- The region finds argument 5 reshaped. -/
theorem V_main_v5 (c : Dev nD) : V m c main_v5 = shapeCast _ (m ((c : Thread nD τ).loc main_arg5)) shapeCasts_S64x16x192x128_S1024x192x128 := by
  show StableHlo.after hostOps0 (fun b => m (c, b)) (Proc.devRef .tc main_v5) = _
  after_results
  rfl

/-- The region finds argument 6 reshaped. -/
theorem V_main_v6 (c : Dev nD) : V m c main_v6 = shapeCast _ (m ((c : Thread nD τ).loc main_arg6)) shapeCasts_S64x16x192_S1024x192 := by
  show StableHlo.after hostOps0 (fun b => m (c, b)) (Proc.devRef .tc main_v6) = _
  after_results
  rfl

/-- The region finds argument 7 reshaped. -/
theorem V_main_v7 (c : Dev nD) : V m c main_v7 = shapeCast _ (m ((c : Thread nD τ).loc main_arg7)) shapeCasts_S64x16x192_S1024x192 := by
  show StableHlo.after hostOps0 (fun b => m (c, b)) (Proc.devRef .tc main_v7) = _
  after_results
  rfl

/-- Window 0's block index at point `t`. -/
theorem index0 : ∀ t : Fin cfg0.N, win0_0.index t = ![t.val, 0] := (by decide +kernel : ∀ t : Fin grid0.N, win0_0.index t = ![t.val, 0])
/-- Window 1's block index at point `t`. -/
theorem index1 : ∀ t : Fin cfg0.N, win0_1.index t = ![t.val, 0] := (by decide +kernel : ∀ t : Fin grid0.N, win0_1.index t = ![t.val, 0])
/-- Window 2's block index at point `t`. -/
theorem index2 : ∀ t : Fin cfg0.N, win0_2.index t = ![t.val, 0] := (by decide +kernel : ∀ t : Fin grid0.N, win0_2.index t = ![t.val, 0])
/-- Window 3's block index at point `t`. -/
theorem index3 : ∀ t : Fin cfg0.N, win0_3.index t = ![t.val, 0, 0] := (by decide +kernel : ∀ t : Fin grid0.N, win0_3.index t = ![t.val, 0, 0])
/-- Window 4's block index at point `t`. -/
theorem index4 : ∀ t : Fin cfg0.N, win0_4.index t = ![t.val, 0] := (by decide +kernel : ∀ t : Fin grid0.N, win0_4.index t = ![t.val, 0])
/-- Window 5's block index at point `t`. -/
theorem index5 : ∀ t : Fin cfg0.N, win0_5.index t = ![t.val, 0, 0] := (by decide +kernel : ∀ t : Fin grid0.N, win0_5.index t = ![t.val, 0, 0])
/-- Window 6's block index at point `t`. -/
theorem index6 : ∀ t : Fin cfg0.N, win0_6.index t = ![t.val, 0] := (by decide +kernel : ∀ t : Fin grid0.N, win0_6.index t = ![t.val, 0])
/-- Window 7's block index at point `t`. -/
theorem index7 : ∀ t : Fin cfg0.N, win0_7.index t = ![t.val, 0] := (by decide +kernel : ∀ t : Fin grid0.N, win0_7.index t = ![t.val, 0])
/-- Window 8's block index at point `t`. -/
theorem index8 : ∀ t : Fin cfg0.N, win0_8.index t = ![t.val, 0] := (by decide +kernel : ∀ t : Fin grid0.N, win0_8.index t = ![t.val, 0])
/-- Window 9's block index at point `t`. -/
theorem index9 : ∀ t : Fin cfg0.N, win0_9.index t = ![t.val, 0] := (by decide +kernel : ∀ t : Fin grid0.N, win0_9.index t = ![t.val, 0])

/-- Window 0's block at point `t`, at an index, is the argument at batch entry `t`. -/
theorem block0 (c : Dev nD) (t : Fin cfg0.N) (r : Fin 64) (u : Fin 128) :
    iblk m c 0 t (ix2 r u) = m ((c : Thread nD τ).loc main_arg0) (ix4 (t.cast N_0 : Fin 64) (0 : Fin 1) r u) := by
  have e := index0 t
  have hb : ((win0_0.blk t).view.emb (ix2 r u)) = (ix2 (⟨64 * t.val + r.val, by have := lt_of_lt_of_eq t.isLt N_0; omega⟩ : Fin 4096) u) := by
    blk_ext [e]
  blk_simp [iblk]
  rw [hb, V_main_v0]
  exact shapeCast_apply _ _ _ _ (by
    refine (Shape.rowMajor_val_four _).trans (Eq.trans ?_ (Shape.rowMajor_val_two _).symm)
    show ((t.val * 1 + 0) * 64 + r.val) * 128 + u.val = (64 * t.val + r.val) * 128 + u.val
    omega)

/-- Window 1's block at point `t`, at an index, is the argument at batch entry `t`. -/
theorem block1 (c : Dev nD) (t : Fin cfg0.N) (r : Fin 16) (u : Fin 128) :
    iblk m c 1 t (ix2 r u) = m ((c : Thread nD τ).loc main_arg1) (ix4 (t.cast N_0 : Fin 64) (0 : Fin 1) r u) := by
  have e := index1 t
  have hb : ((win0_1.blk t).view.emb (ix2 r u)) = (ix2 (⟨16 * t.val + r.val, by have := lt_of_lt_of_eq t.isLt N_0; omega⟩ : Fin 1024) u) := by
    blk_ext [e]
  blk_simp [iblk]
  rw [hb, V_main_v1]
  exact shapeCast_apply _ _ _ _ (by
    refine (Shape.rowMajor_val_four _).trans (Eq.trans ?_ (Shape.rowMajor_val_two _).symm)
    show ((t.val * 1 + 0) * 16 + r.val) * 128 + u.val = (16 * t.val + r.val) * 128 + u.val
    omega)

/-- Window 2's block at point `t`, at an index, is the argument at batch entry `t`. -/
theorem block2 (c : Dev nD) (t : Fin cfg0.N) (r : Fin 16) (u : Fin 128) :
    iblk m c 2 t (ix2 r u) = m ((c : Thread nD τ).loc main_arg2) (ix4 (t.cast N_0 : Fin 64) (0 : Fin 1) r u) := by
  have e := index2 t
  have hb : ((win0_2.blk t).view.emb (ix2 r u)) = (ix2 (⟨16 * t.val + r.val, by have := lt_of_lt_of_eq t.isLt N_0; omega⟩ : Fin 1024) u) := by
    blk_ext [e]
  blk_simp [iblk]
  rw [hb, V_main_v2]
  exact shapeCast_apply _ _ _ _ (by
    refine (Shape.rowMajor_val_four _).trans (Eq.trans ?_ (Shape.rowMajor_val_two _).symm)
    show ((t.val * 1 + 0) * 16 + r.val) * 128 + u.val = (16 * t.val + r.val) * 128 + u.val
    omega)

/-- Window 3's block at point `t`, at an index, is the argument at batch entry `t`. -/
theorem block3 (c : Dev nD) (t : Fin cfg0.N) (r : Fin 16) (u : Fin 192) (v : Fin 128) :
    iblk m c 3 t (ix3 r u v) = m ((c : Thread nD τ).loc main_arg3) (ix4 (t.cast N_0 : Fin 64) r u v) := by
  have e := index3 t
  have hb : ((win0_3.blk t).view.emb (ix3 r u v)) = (ix3 (⟨16 * t.val + r.val, by have := lt_of_lt_of_eq t.isLt N_0; omega⟩ : Fin 1024) u v) := by
    blk_ext [e]
  blk_simp [iblk]
  rw [hb, V_main_v3]
  exact shapeCast_apply _ _ _ _ (by
    refine (Shape.rowMajor_val_four _).trans (Eq.trans ?_ (Shape.rowMajor_val_three _).symm)
    show ((t.val * 16 + r.val) * 192 + u.val) * 128 + v.val = ((16 * t.val + r.val) * 192 + u.val) * 128 + v.val
    omega)

/-- Window 4's block at point `t`, at an index, is the argument at batch entry `t`. -/
theorem block4 (c : Dev nD) (t : Fin cfg0.N) (r : Fin 16) (u : Fin 192) :
    iblk m c 4 t (ix2 r u) = m ((c : Thread nD τ).loc main_arg4) (ix3 (t.cast N_0 : Fin 64) r u) := by
  have e := index4 t
  have hb : ((win0_4.blk t).view.emb (ix2 r u)) = (ix2 (⟨16 * t.val + r.val, by have := lt_of_lt_of_eq t.isLt N_0; omega⟩ : Fin 1024) u) := by
    blk_ext [e]
  blk_simp [iblk]
  rw [hb, V_main_v4]
  exact shapeCast_apply _ _ _ _ (by
    refine (Shape.rowMajor_val_three _).trans (Eq.trans ?_ (Shape.rowMajor_val_two _).symm)
    show (t.val * 16 + r.val) * 192 + u.val = (16 * t.val + r.val) * 192 + u.val
    omega)

/-- Window 5's block at point `t`, at an index, is the argument at batch entry `t`. -/
theorem block5 (c : Dev nD) (t : Fin cfg0.N) (r : Fin 16) (u : Fin 192) (v : Fin 128) :
    iblk m c 5 t (ix3 r u v) = m ((c : Thread nD τ).loc main_arg5) (ix4 (t.cast N_0 : Fin 64) r u v) := by
  have e := index5 t
  have hb : ((win0_5.blk t).view.emb (ix3 r u v)) = (ix3 (⟨16 * t.val + r.val, by have := lt_of_lt_of_eq t.isLt N_0; omega⟩ : Fin 1024) u v) := by
    blk_ext [e]
  blk_simp [iblk]
  rw [hb, V_main_v5]
  exact shapeCast_apply _ _ _ _ (by
    refine (Shape.rowMajor_val_four _).trans (Eq.trans ?_ (Shape.rowMajor_val_three _).symm)
    show ((t.val * 16 + r.val) * 192 + u.val) * 128 + v.val = ((16 * t.val + r.val) * 192 + u.val) * 128 + v.val
    omega)

/-- Window 6's block at point `t`, at an index, is the argument at batch entry `t`. -/
theorem block6 (c : Dev nD) (t : Fin cfg0.N) (r : Fin 16) (u : Fin 192) :
    iblk m c 6 t (ix2 r u) = m ((c : Thread nD τ).loc main_arg6) (ix3 (t.cast N_0 : Fin 64) r u) := by
  have e := index6 t
  have hb : ((win0_6.blk t).view.emb (ix2 r u)) = (ix2 (⟨16 * t.val + r.val, by have := lt_of_lt_of_eq t.isLt N_0; omega⟩ : Fin 1024) u) := by
    blk_ext [e]
  blk_simp [iblk]
  rw [hb, V_main_v6]
  exact shapeCast_apply _ _ _ _ (by
    refine (Shape.rowMajor_val_three _).trans (Eq.trans ?_ (Shape.rowMajor_val_two _).symm)
    show (t.val * 16 + r.val) * 192 + u.val = (16 * t.val + r.val) * 192 + u.val
    omega)

/-- Window 7's block at point `t`, at an index, is the argument at batch entry `t`. -/
theorem block7 (c : Dev nD) (t : Fin cfg0.N) (r : Fin 16) (u : Fin 192) :
    iblk m c 7 t (ix2 r u) = m ((c : Thread nD τ).loc main_arg7) (ix3 (t.cast N_0 : Fin 64) r u) := by
  have e := index7 t
  have hb : ((win0_7.blk t).view.emb (ix2 r u)) = (ix2 (⟨16 * t.val + r.val, by have := lt_of_lt_of_eq t.isLt N_0; omega⟩ : Fin 1024) u) := by
    blk_ext [e]
  blk_simp [iblk]
  rw [hb, V_main_v7]
  exact shapeCast_apply _ _ _ _ (by
    refine (Shape.rowMajor_val_three _).trans (Eq.trans ?_ (Shape.rowMajor_val_two _).symm)
    show (t.val * 16 + r.val) * 192 + u.val = (16 * t.val + r.val) * 192 + u.val
    omega)

/-- The scores read from the blocks at point `t` are those of batch entry `t` of the arguments. -/
theorem headScore_block (c : Dev nD) (t : Fin cfg0.N) (h : Fin 16) (r : Fin 64) :
    headScore (iblk m c 0 t) (iblk m c 1 t) (iblk m c 3 t) (iblk m c 4 t) h r
      = rowScores (m ((c : Thread nD τ).loc main_arg0)) (m ((c : Thread nD τ).loc main_arg1)) (m ((c : Thread nD τ).loc main_arg3)) (m ((c : Thread nD τ).loc main_arg4)) (t.cast N_0 : Fin 64) h r := by
  unfold headScore rowScores
  congr 1
  · exact funext fun u => block0 m c t r u
  · exact funext fun u => funext fun v => congrArg code (block3 m c t h u v)
  · exact funext fun u => block4 m c t h u
  · exact funext fun u => block1 m c t h u

/-- The first block written back at point `t` holds batch entry `t`'s output rows. -/
theorem blockOut_block (c : Dev nD) (t : Fin cfg0.N) (r : Fin 64) (u : Fin 128) :
    blockOut (iblk m c 0 t) (iblk m c 1 t) (iblk m c 2 t) (iblk m c 3 t) (iblk m c 4 t) (iblk m c 5 t) (iblk m c 6 t) r u
      = attendAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (t.cast N_0 : Fin 64) r ⟨r.val / 4, by omega⟩ u := by
  unfold blockOut attendAt
  rw [headScore_block]
  exact mix_congr (fun _ => rfl) (fun v => congrArg code (block5 m c t _ v u)) (fun v => block6 m c t _ v) (block2 m c t _ u)

/-- The second block written back at point `t` holds batch entry `t`'s kept scores. -/
theorem blockMass_block (c : Dev nD) (t : Fin cfg0.N) (h : Fin 16) (u : Fin 192) :
    blockMass (iblk m c 0 t) (iblk m c 1 t) (iblk m c 3 t) (iblk m c 4 t) (iblk m c 7 t) h u
      = massAt (m ((c : Thread nD τ).loc main_arg0)) (m ((c : Thread nD τ).loc main_arg1)) (m ((c : Thread nD τ).loc main_arg3)) (m ((c : Thread nD τ).loc main_arg4)) (m ((c : Thread nD τ).loc main_arg7)) (t.cast N_0 : Fin 64) h u := by
  unfold blockMass massAt
  simp only [headScore_block]
  rw [show iblk m c 7 t (ix2 h u) = _ from block7 m c t h u]

/-- The first result array after the run is the attention step of the arguments. -/
theorem final8 (c : Dev nD) : (dats m 0 c).arrAt 8 cfg0.N
    = attended (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  have e := index8 t
  have ht : t.val < 64 := lt_of_lt_of_eq t.isLt N_0
  have h0 : (y 0).val < 64 := (y 0).isLt
  have h1 : (y 1).val < 128 := (y 1).isLt
  have hb : ((win0_8.blk t).view.emb y) = (ix2 (⟨64 * t.val + (y 0).val, by omega⟩ : Fin 4096) (y 1 : Fin 128)) := by
    blk_ext [e]
  blk_simp
  rw [hb, after0_8, out8_apply]
  refine (blockOut_block m c t (y 0) (y 1)).trans ?_
  unfold attended
  have k1 : (⟨t.val, ht⟩ : Fin 64) = ⟨(64 * t.val + (y 0).val) / 64, by omega⟩ := Fin.ext (by show t.val = (64 * t.val + (y 0).val) / 64; omega)
  have k2 : (y 0 : Fin 64) = ⟨(64 * t.val + (y 0).val) % 64, by omega⟩ := Fin.ext (by show (y 0).val = (64 * t.val + (y 0).val) % 64; omega)
  have k3 : (⟨(y 0).val / 4, by omega⟩ : Fin 16) = ⟨(64 * t.val + (y 0).val) % 64 / 4, by omega⟩ :=
    Fin.ext (by show (y 0).val / 4 = (64 * t.val + (y 0).val) % 64 / 4; omega)
  exact congr (congrArg₂ (attendAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) k1 k2 |> congr <| k3) rfl

/-- The second result array after the run is the kept scores with the probability mass of the arguments added. -/
theorem final9 (c : Dev nD) : (dats m 0 c).arrAt 9 cfg0.N
    = massed (m ((c : Thread nD τ).loc main_arg0)) (m ((c : Thread nD τ).loc main_arg1)) (m ((c : Thread nD τ).loc main_arg3)) (m ((c : Thread nD τ).loc main_arg4)) (m ((c : Thread nD τ).loc main_arg7)) := by
  refine (dats m 0 c).arrAt_eq_of_covers 9 _ (by decide +kernel) fun t hf y => ?_
  have e := index9 t
  have ht : t.val < 64 := lt_of_lt_of_eq t.isLt N_0
  have h0 : (y 0).val < 16 := (y 0).isLt
  have h1 : (y 1).val < 192 := (y 1).isLt
  have hb : ((win0_9.blk t).view.emb y) = (ix2 (⟨16 * t.val + (y 0).val, by omega⟩ : Fin 1024) (y 1 : Fin 192)) := by
    blk_ext [e]
  blk_simp
  rw [hb, after0_9, out9_apply]
  refine (blockMass_block m c t (y 0) (y 1)).trans ?_
  unfold massed
  have k1 : (⟨t.val, ht⟩ : Fin 64) = ⟨(16 * t.val + (y 0).val) / 16, by omega⟩ := Fin.ext (by show t.val = (16 * t.val + (y 0).val) / 16; omega)
  have k2 : (y 0 : Fin 16) = ⟨(16 * t.val + (y 0).val) % 16, by omega⟩ := Fin.ext (by show (y 0).val = (16 * t.val + (y 0).val) % 16; omega)
  exact congr (congrArg₂ (massAt (m ((c : Thread nD τ).loc main_arg0)) (m ((c : Thread nD τ).loc main_arg1)) (m ((c : Thread nD τ).loc main_arg3)) (m ((c : Thread nD τ).loc main_arg4)) (m ((c : Thread nD τ).loc main_arg7))) k1 k2) rfl

/-- The run: both results as functions of the arguments, the arguments unchanged. -/
theorem run : θ_run defs (onTc (τ := τ) (main (F := Ideal))) ⟨m, fun _ => 0, ρ⟩ fun r => ∀ c : Dev nD,
      r.2.mem ((c : Thread nD τ).loc main_v8_0) = attended (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v8_1) = massed (m ((c : Thread nD τ).loc main_arg0)) (m ((c : Thread nD τ).loc main_arg1)) (m ((c : Thread nD τ).loc main_arg3)) (m ((c : Thread nD τ).loc main_arg4)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (Value.run_blocks m ρ)

end Cert.KernelIdeal.Arrays
-- ==== Proof.RefRead.lean ====
/- The reference's two results, at an index, as the mathematics of the eight arguments: its stages read one after
   another from the scaled scores to the two result arrays. -/
module

public import proofs.«01_k».proof.Proof.Attn
public import proofs.«01_k».proof.Proof.Gen.ReferenceIdeal.Read
public import Idealize.ShloMosaic.Lib.Pointwise

@[expose] public section

set_option maxRecDepth 16384

noncomputable section

namespace Cert.ReferenceIdeal.Stages

open Cert.ReferenceIdeal Cert.ReferenceIdeal.Gen Cert.ReferenceIdeal.Read Cert.Math Idealize.ShloMosaic
open Idealize.ShloMosaic.TcCoe Idealize.SL.Sem

/-- The bit pattern of minus infinity denotes the bottom element. -/
theorem ofBits_neg_inf : (FloatOps.ofBits (F := Ideal) .f32 0xFF800000#32 : EReal) = ⊥ := by
  show Ideal.ofBits .f32 0xFF800000#32 = ⊥
  simp [Ideal.ofBits, Ideal.ieee]

/-- A code widened to 32 bits and converted is the code as an extended real. -/
theorem code_widened (b : BitVec 8) : (FloatOps.sitofp (F := Ideal) .bf16 (b.signExtend 32) : EReal) = code b := by
  show (((b.signExtend 32).toInt : ℝ) : EReal) = ((b.toInt : ℝ) : EReal)
  rw [BitVec.toInt_signExtend_of_le (by decide)]

variable (x0 : Vec Ideal S64x1x64x128 .bf16) (x1 x2 : Vec Ideal S64x1x16x128 .bf16) (x3 : Vec Ideal S64x16x192x128 .i8)
  (x4 : Vec Ideal S64x16x192 .f32) (x5 : Vec Ideal S64x16x192x128 .i8) (x6 x7 : Vec Ideal S64x16x192 .f32)
variable (b : Fin 64) (h : Fin 16) (g : Fin 4)

/-- The query row `g` of head `h` is row `4 h + g` of the batch entry. -/
theorem query_apply (k : Fin 128) : val_main_v0 (F := Ideal) x0 (ix5 b (0 : Fin 1) h g k)
    = x0 (ix4 b (0 : Fin 1) (⟨4 * h.val + g.val, by omega⟩ : Fin 64) k) := by
  rw [val_main_v0_apply]
  refine congrArg x0 (funext fun a => ?_)
  match a with
  | ⟨0, _⟩ => exact Fin.ext (by show ((((b.val * 1 + 0) * 16 + h.val) * 4 + g.val) * 128 + k.val) / 8192 = b.val; omega)
  | ⟨1, _⟩ => rfl
  | ⟨2, _⟩ => exact Fin.ext (by show ((((b.val * 1 + 0) * 16 + h.val) * 4 + g.val) * 128 + k.val) / 128 % 64 = 4 * h.val + g.val; omega)
  | ⟨3, _⟩ => exact Fin.ext (by show ((((b.val * 1 + 0) * 16 + h.val) * 4 + g.val) * 128 + k.val) % 128 = k.val; omega)

/-- The inner products with the kept key codes. -/
theorem keyDot_apply (t : Fin 192) : val_main_v3 (F := Ideal) x0 x3 (ix5 b h t (0 : Fin 1) g)
    = ∑ k : Fin 128, x0 (ix4 b (0 : Fin 1) (⟨4 * h.val + g.val, by omega⟩ : Fin 64) k) * code (x3 (ix4 b h t k)) := by
  rw [val_main_v3_apply]
  refine Finset.sum_congr rfl fun k _ => ?_
  have e1 : lidx_main_v3 (ix5 b h t (0 : Fin 1) g) k = ix4 b h t k := funext fun a => by
    match a with | ⟨0, _⟩ => rfl | ⟨1, _⟩ => rfl | ⟨2, _⟩ => rfl | ⟨3, _⟩ => rfl
  have e2 : ridx_main_v3 (ix5 b h t (0 : Fin 1) g) k = ix5 b (0 : Fin 1) h g k := funext fun a => by
    match a with | ⟨0, _⟩ => rfl | ⟨1, _⟩ => rfl | ⟨2, _⟩ => rfl | ⟨3, _⟩ => rfl | ⟨4, _⟩ => rfl
  rw [e1, e2, query_apply, val_main_v2_apply, val_main_v1_apply, code_widened, mul_comm]

/-- The scaled scores of the kept tokens. -/
theorem keptScore_apply (t : Fin 192) : val_main_v9 (F := Ideal) x0 x3 x4 (ix5 b h g (0 : Fin 1) t)
    = (∑ k : Fin 128, x0 (ix4 b (0 : Fin 1) (⟨4 * h.val + g.val, by omega⟩ : Fin 64) k) * code (x3 (ix4 b h t k)))
        * x4 (ix3 b h t) * smScale := by
  rw [val_main_v9_apply, val_main_v7_apply, val_main_v4_apply, val_main_v6_apply, val_main_v5_apply, val_main_v8_apply,
    val_main_cst_apply]
  have e1 : idx_main_v4 (ix5 b h g (0 : Fin 1) t) = ix5 b h t (0 : Fin 1) g := funext fun a => by
    match a with | ⟨0, _⟩ => rfl | ⟨1, _⟩ => rfl | ⟨2, _⟩ => rfl | ⟨3, _⟩ => rfl | ⟨4, _⟩ => rfl
  have e2 : idx_main_v5 (idx_main_v6 (ix5 b h g (0 : Fin 1) t)) = ix3 b h t := funext fun a => by
    match a with | ⟨0, _⟩ => rfl | ⟨1, _⟩ => rfl | ⟨2, _⟩ => rfl
  rw [e1, e2, keyDot_apply]
  rfl

/-- The scaled score of the new token, before the causal mask. -/
theorem newDot_apply : val_main_v13 (F := Ideal) x0 x1 (ix5 b h g (0 : Fin 1) (0 : Fin 1))
    = (∑ k : Fin 128, x0 (ix4 b (0 : Fin 1) (⟨4 * h.val + g.val, by omega⟩ : Fin 64) k) * x1 (ix4 b (0 : Fin 1) h k)) * smScale := by
  rw [val_main_v13_apply, val_main_v11_apply, val_main_v12_apply, val_main_cst_0_apply]
  have e1 : idx_main_v11 (ix5 b h g (0 : Fin 1) (0 : Fin 1)) = ix5 b h (0 : Fin 1) (0 : Fin 1) g := funext fun a => by
    match a with | ⟨0, _⟩ => rfl | ⟨1, _⟩ => rfl | ⟨2, _⟩ => rfl | ⟨3, _⟩ => rfl | ⟨4, _⟩ => rfl
  rw [e1, val_main_v10_apply]
  refine congrArg (· * smScale) (Finset.sum_congr rfl fun k _ => ?_)
  have e2 : lidx_main_v10 (ix5 b h (0 : Fin 1) (0 : Fin 1) g) k = ix4 b (0 : Fin 1) h k := funext fun a => by
    match a with | ⟨0, _⟩ => rfl | ⟨1, _⟩ => rfl | ⟨2, _⟩ => rfl | ⟨3, _⟩ => rfl
  have e3 : ridx_main_v10 (ix5 b h (0 : Fin 1) (0 : Fin 1) g) k = ix5 b (0 : Fin 1) h g k := funext fun a => by
    match a with | ⟨0, _⟩ => rfl | ⟨1, _⟩ => rfl | ⟨2, _⟩ => rfl | ⟨3, _⟩ => rfl | ⟨4, _⟩ => rfl
  rw [e2, e3, query_apply, mul_comm]

/-- The causal mask lets the one new token through. -/
theorem newScore_apply : val_main_v19 (F := Ideal) x0 x1 (ix5 b h g (0 : Fin 1) (0 : Fin 1))
    = (∑ k : Fin 128, x0 (ix4 b (0 : Fin 1) (⟨4 * h.val + g.val, by omega⟩ : Fin 64) k) * x1 (ix4 b (0 : Fin 1) h k)) * smScale := by
  rw [val_main_v19_apply, val_main_call0_v1_apply, val_main_v18_apply, val_main_v15_apply, val_main_v17_apply,
    val_main_v14_apply, val_main_v16_apply, ← newDot_apply]
  rfl

/-- The 193 scores side by side. -/
theorem scores_apply (t : Fin 193) : val_main_v20 (F := Ideal) x0 x1 x3 x4 (ix5 b h g (0 : Fin 1) t)
    = rowScores x0 x1 x3 x4 b h ⟨4 * h.val + g.val, by omega⟩ t := by
  unfold rowScores score
  by_cases ht : t.val < 192
  · rw [dif_pos ht, ← keptScore_apply]
    unfold val_main_v20
    generalize val_main_v9 (F := Ideal) x0 x3 x4 = A
    generalize val_main_v19 (F := Ideal) x0 x1 = B
    pointwise
    rw [dif_pos ht]
  · rw [dif_neg ht, ← newScore_apply]
    unfold val_main_v20
    generalize val_main_v9 (F := Ideal) x0 x3 x4 = A
    generalize val_main_v19 (F := Ideal) x0 x1 = B
    pointwise
    rw [dif_neg ht]
    have e : (⟨t.val - 192, by omega⟩ : Fin 1) = 0 := Subsingleton.elim _ _
    exact congrArg (fun z : Fin 1 => B (ix5 b h g (0 : Fin 1) z)) e

/-- The greatest of the 193 scores. -/
theorem greatest_apply : val_main_v23 (F := Ideal) x0 x1 x3 x4 (ix4 b h g (0 : Fin 1))
    = Finset.univ.sup (rowScores x0 x1 x3 x4 b h ⟨4 * h.val + g.val, by omega⟩) := by
  rw [val_main_v23_apply, val_main_v22_apply, val_main_cst_3_apply, ofBits_neg_inf]
  unfold val_main_v21
  have e := scores_apply x0 x1 x3 x4 b h g
  generalize val_main_v20 (F := Ideal) x0 x1 x3 x4 = A at e ⊢
  pointwise
  rw [show (val_main_cst_2 (F := Ideal) (Shape.Idx.first h_S_) : EReal) = ⊥ from by
    rw [val_main_cst_2_apply, ofBits_neg_inf], max_eq_right bot_le]
  simp only [e]
  rfl

/-- The probabilities. -/
theorem probs_apply (t : Fin 193) : val_main_v31 (F := Ideal) x0 x1 x3 x4 (ix5 b h g (0 : Fin 1) t)
    = softmax (rowScores x0 x1 x3 x4 b h ⟨4 * h.val + g.val, by omega⟩) t := by
  have hexp : ∀ u : Fin 193, val_main_v27 (F := Ideal) x0 x1 x3 x4 (ix5 b h g (0 : Fin 1) u)
      = Ideal.exp (rowScores x0 x1 x3 x4 b h ⟨4 * h.val + g.val, by omega⟩ u
          - Finset.univ.sup (rowScores x0 x1 x3 x4 b h ⟨4 * h.val + g.val, by omega⟩)) := fun u => by
    rw [val_main_v27_apply, val_main_v26_apply, val_main_v25_apply, val_main_v24_apply, scores_apply]
    have e : idx_main_v24 (idx_main_v25 (ix5 b h g (0 : Fin 1) u)) = ix4 b h g (0 : Fin 1) := funext fun a => by
      match a with | ⟨0, _⟩ => rfl | ⟨1, _⟩ => rfl | ⟨2, _⟩ => rfl | ⟨3, _⟩ => rfl
    rw [e, greatest_apply]
    rfl
  rw [val_main_v31_apply, val_main_v30_apply, val_main_v29_apply, val_main_v28_apply, val_main_cst_4_apply, hexp]
  have e : ∀ u : Fin 193, idx_main_v28 (idx_main_v29 (idx_main_v30 (ix5 b h g (0 : Fin 1) t))) u = ix5 b h g (0 : Fin 1) u := fun u =>
    funext fun a => by
      match a with | ⟨0, _⟩ => rfl | ⟨1, _⟩ => rfl | ⟨2, _⟩ => rfl | ⟨3, _⟩ => rfl | ⟨4, _⟩ => rfl
  simp only [e, hexp]
  rw [show (FloatOps.ofBits (F := Ideal) .f32 0x00000000#32 : EReal) = 0 from by
    show Ideal.ofBits .f32 0x00000000#32 = 0
    simp [Ideal.ofBits, Ideal.ieee], zero_add]
  rfl

/-- The probabilities of the kept tokens. -/
theorem keptProbs_apply (t : Fin 192) : val_main_v32 (F := Ideal) x0 x1 x3 x4 (ix5 b h g (0 : Fin 1) t)
    = softmax (rowScores x0 x1 x3 x4 b h ⟨4 * h.val + g.val, by omega⟩) t.castSucc := by
  rw [val_main_v32_apply, ← probs_apply]
  refine congrArg _ (funext fun a => ?_)
  match a with | ⟨0, _⟩ => rfl | ⟨1, _⟩ => rfl | ⟨2, _⟩ => rfl | ⟨3, _⟩ => rfl | ⟨4, _⟩ => rfl

/-- The probability of the new token. -/
theorem newProb_apply : val_main_v33 (F := Ideal) x0 x1 x3 x4 (ix5 b h g (0 : Fin 1) (0 : Fin 1))
    = softmax (rowScores x0 x1 x3 x4 b h ⟨4 * h.val + g.val, by omega⟩) (Fin.last 192) := by
  rw [val_main_v33_apply, ← probs_apply]
  refine congrArg _ (funext fun a => ?_)
  match a with | ⟨0, _⟩ => rfl | ⟨1, _⟩ => rfl | ⟨2, _⟩ => rfl | ⟨3, _⟩ => rfl | ⟨4, _⟩ => rfl

/-- The kept values' part of an output row. -/
theorem keptOut_apply (c : Fin 128) : val_main_v41 (F := Ideal) x0 x1 x3 x4 x5 x6 (ix5 b (0 : Fin 1) h g c)
    = ∑ t : Fin 192, softmax (rowScores x0 x1 x3 x4 b h ⟨4 * h.val + g.val, by omega⟩) t.castSucc * x6 (ix3 b h t)
        * code (x5 (ix4 b h t c)) := by
  rw [val_main_v41_apply, val_main_v40_apply]
  refine Finset.sum_congr rfl fun t _ => ?_
  have e1 : lidx_main_v40 (idx_main_v41 (ix5 b (0 : Fin 1) h g c)) t = ix4 b h t c := funext fun a => by
    match a with | ⟨0, _⟩ => rfl | ⟨1, _⟩ => rfl | ⟨2, _⟩ => rfl | ⟨3, _⟩ => rfl
  have e2 : ridx_main_v40 (idx_main_v41 (ix5 b (0 : Fin 1) h g c)) t = ix5 b h g (0 : Fin 1) t := funext fun a => by
    match a with | ⟨0, _⟩ => rfl | ⟨1, _⟩ => rfl | ⟨2, _⟩ => rfl | ⟨3, _⟩ => rfl | ⟨4, _⟩ => rfl
  have e3 : idx_main_v34 (idx_main_v35 (ix5 b h g (0 : Fin 1) t)) = ix3 b h t := funext fun a => by
    match a with | ⟨0, _⟩ => rfl | ⟨1, _⟩ => rfl | ⟨2, _⟩ => rfl
  rw [e1, e2, val_main_v39_apply, val_main_v38_apply, code_widened, val_main_v37_apply, val_main_v36_apply,
    keptProbs_apply, val_main_v35_apply, val_main_v34_apply, e3, mul_comm]
  rfl

/-- The new value's part of an output row. -/
theorem newOut_apply (c : Fin 128) : val_main_v44 (F := Ideal) x0 x1 x2 x3 x4 (ix5 b (0 : Fin 1) h g c)
    = softmax (rowScores x0 x1 x3 x4 b h ⟨4 * h.val + g.val, by omega⟩) (Fin.last 192) * x2 (ix4 b (0 : Fin 1) h c) := by
  rw [val_main_v44_apply, val_main_v43_apply, Fin.sum_univ_one]
  have e1 : lidx_main_v43 (idx_main_v44 (ix5 b (0 : Fin 1) h g c)) 0 = ix4 b (0 : Fin 1) h c := funext fun a => by
    match a with | ⟨0, _⟩ => rfl | ⟨1, _⟩ => rfl | ⟨2, _⟩ => rfl | ⟨3, _⟩ => rfl
  have e2 : ridx_main_v43 (idx_main_v44 (ix5 b (0 : Fin 1) h g c)) 0 = ix5 b h g (0 : Fin 1) (0 : Fin 1) := funext fun a => by
    match a with | ⟨0, _⟩ => rfl | ⟨1, _⟩ => rfl | ⟨2, _⟩ => rfl | ⟨3, _⟩ => rfl | ⟨4, _⟩ => rfl
  rw [e1, e2, val_main_v42_apply, newProb_apply, mul_comm]
  rfl

/-- An output row. -/
theorem out_apply (c : Fin 128) : val_main_v45 (F := Ideal) x0 x1 x2 x3 x4 x5 x6 (ix5 b (0 : Fin 1) h g c)
    = attendAt x0 x1 x2 x3 x4 x5 x6 b ⟨4 * h.val + g.val, by omega⟩ h c := by
  rw [val_main_v45_apply, keptOut_apply, newOut_apply]
  rfl

/-- The probability mass a token is given. -/
theorem mass_apply (t : Fin 192) : val_main_v48 (F := Ideal) x0 x1 x3 x4 (ix3 b h t)
    = ∑ g : Fin 4, softmax (rowScores x0 x1 x3 x4 b h ⟨4 * h.val + g.val, by omega⟩) t.castSucc := by
  have e := fun g => keptProbs_apply x0 x1 x3 x4 b h g t
  unfold val_main_v48 val_main_cst_5
  generalize val_main_v32 (F := Ideal) x0 x1 x3 x4 = A at e ⊢
  simp only [← e]
  pointwise
  exact Finset.sum_congr rfl fun g _ => Fin.sum_univ_one _

/-- The first result is the attention step of the arguments. -/
theorem first_eq : val_main_v47 (F := Ideal) x0 x1 x2 x3 x4 x5 x6 = attended x0 x1 x2 x3 x4 x5 x6 := by
  funext y
  obtain ⟨r, c, rfl⟩ : ∃ (r : Fin 4096) (c : Fin 128), y = ix2 r c := ⟨y 0, y 1, eq_ix2 y⟩
  rw [val_main_v47_apply, val_main_v46_apply]
  have e : idx_main_v46 (ix2 r c) = ix5 (⟨r.val / 64, by omega⟩ : Fin 64) (0 : Fin 1) (⟨r.val % 64 / 4, by omega⟩ : Fin 16)
      (⟨r.val % 4, by omega⟩ : Fin 4) c := funext fun a => by
    match a with
    | ⟨0, _⟩ => exact Fin.ext (by show (r.val * 128 + c.val) / 8192 = r.val / 64; omega)
    | ⟨1, _⟩ => rfl
    | ⟨2, _⟩ => exact Fin.ext (by show (r.val * 128 + c.val) / 512 % 16 = r.val % 64 / 4; omega)
    | ⟨3, _⟩ => exact Fin.ext (by show (r.val * 128 + c.val) / 128 % 4 = r.val % 4; omega)
    | ⟨4, _⟩ => exact Fin.ext (by show (r.val * 128 + c.val) % 128 = c.val; omega)
  rw [e, out_apply]
  have k : (⟨4 * (r.val % 64 / 4) + r.val % 4, by omega⟩ : Fin 64) = ⟨r.val % 64, by omega⟩ :=
    Fin.ext (by show 4 * (r.val % 64 / 4) + r.val % 4 = r.val % 64; omega)
  exact congrArg (fun z => attendAt x0 x1 x2 x3 x4 x5 x6 ⟨r.val / 64, by omega⟩ z ⟨r.val % 64 / 4, by omega⟩ c) k

/-- The second result is the kept scores with the probability mass of the arguments added. -/
theorem second_eq : val_main_v50 (F := Ideal) x0 x1 x3 x4 x7 = massed x0 x1 x3 x4 x7 := by
  funext y
  obtain ⟨r, t, rfl⟩ : ∃ (r : Fin 1024) (t : Fin 192), y = ix2 r t := ⟨y 0, y 1, eq_ix2 y⟩
  rw [val_main_v50_apply, val_main_v49_apply]
  have e : idx_main_v50 (ix2 r t) = ix3 (⟨r.val / 16, by omega⟩ : Fin 64) (⟨r.val % 16, by omega⟩ : Fin 16) t :=
    funext fun a => by
      match a with
      | ⟨0, _⟩ => exact Fin.ext (by show (r.val * 192 + t.val) / 3072 = r.val / 16; omega)
      | ⟨1, _⟩ => exact Fin.ext (by show (r.val * 192 + t.val) / 192 % 16 = r.val % 16; omega)
      | ⟨2, _⟩ => exact Fin.ext (by show (r.val * 192 + t.val) % 192 = t.val; omega)
  rw [e, mass_apply]
  rfl

variable (m : (ℓ : Loc nD τ sig) → Buf (Elt Ideal) ℓ) (ρ : Dev nD → PrngReg)

/-- The reference's run: its two results are the attention step of the arguments, and the arguments stay as they
    were. -/
theorem run : θ_run defs (onTc (τ := τ) (main (F := Ideal))) ⟨m, fun _ => 0, ρ⟩ fun r => ∀ c : Dev nD,
      r.2.mem ((c : Thread nD τ).loc main_v47) = attended (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v50) = massed (m ((c : Thread nD τ).loc main_arg0)) (m ((c : Thread nD τ).loc main_arg1)) (m ((c : Thread nD τ).loc main_arg3)) (m ((c : Thread nD τ).loc main_arg4)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans ((val_main_v47_eq m c).trans (first_eq _ _ _ _ _ _ _)),
    (h c).2.1.trans ((val_main_v50_eq m c).trans (second_eq _ _ _ _ _)), (h c).2.2⟩) (Cert.ReferenceIdeal.Value.run m ρ)

end Cert.ReferenceIdeal.Stages
-- ==== Proof.Select.lean ====
/-
  Finding the 192nd greatest of a row by a search over the bits of its key. A row holds 2048 keys, integers in
  [-2^31, 2^31). `atLeast k z` counts those that are at least `z`. The search carries a 32-bit word `t`, read signed:
  it starts from 0 or from -2^31, and trip `n` sets bit `30 - n` of `t` if at least 192 keys are at least the word so
  obtained. After the 31 trips `t` is the greatest integer that 192 of the keys reach, which is the 192nd of the keys
  listed from the greatest down. Nothing in this file speaks of a program.
-/
module

public import Idealize.ShloMosaic.Lib.SortFacts
public import Idealize.ShloMosaic.Lib.SortKey

@[expose] public section

namespace Cert.Select

open Idealize.ShloMosaic

/-- How many of the keys are at least `z`. -/
def atLeast {n : Nat} (k : Fin n → Int) (z : Int) : Nat := (Finset.univ.filter fun i => z ≤ k i).card

/-- No more keys are counted than there are. -/
theorem atLeast_le {n : Nat} (k : Fin n → Int) (z : Int) : atLeast k z ≤ n := by
  unfold atLeast
  exact (Finset.card_filter_le _ _).trans (by simp)

/-- All keys are at least a bound below every one. -/
theorem atLeast_of_le {n : Nat} (k : Fin n → Int) (z : Int) (h : ∀ i, z ≤ k i) : atLeast k z = n := by
  unfold atLeast
  rw [Finset.filter_true_of_mem fun i _ => h i]
  simp

/-- No key is at least a bound above every one. -/
theorem atLeast_of_lt {n : Nat} (k : Fin n → Int) (z : Int) (h : ∀ i, k i < z) : atLeast k z = 0 := by
  unfold atLeast
  rw [Finset.filter_false_of_mem fun i _ => not_le.mpr (h i)]
  simp

/-- The count does not depend on the order in which the keys are listed. -/
theorem atLeast_comp {n : Nat} (k : Fin n → Int) (π : Fin n → Fin n) (hπ : Function.Bijective π) (z : Int) :
    atLeast (fun i => k (π i)) z = atLeast k z := by
  unfold atLeast
  refine Finset.card_bij (fun i _ => π i) ?_ ?_ ?_
  · intro i hi
    simpa using hi
  · intro i _ j _ h
    exact hπ.1 h
  · intro j hj
    obtain ⟨i, rfl⟩ := hπ.2 j
    exact ⟨i, by simpa using hj, rfl⟩

/-- Of keys listed from the greatest down, the key in place `j` is the integer that more than `j` keys reach while at
    most `j` keys exceed it. -/
theorem eq_of_atLeast {n : Nat} (p : Fin n → Int) (hp : ∀ i j, i < j → p j ≤ p i) (j : Fin n) (t : Int)
    (h1 : j.val < atLeast p t) (h2 : atLeast p (t + 1) ≤ j.val) : p j = t := by
  have hle : ∀ i i', i ≤ i' → p i' ≤ p i := fun i i' h => by
    rcases lt_or_eq_of_le h with h | h
    · exact hp i i' h
    · rw [h]
  by_contra hne
  rcases lt_or_gt_of_ne hne with hlt | hgt
  · have hs : (Finset.univ.filter fun i => t ≤ p i) ⊆ Finset.Iio j := by
      intro i hi
      have hi' : t ≤ p i := by simpa using hi
      rw [Finset.mem_Iio]
      by_contra hji
      have := hle j i (not_lt.mp hji)
      omega
    have := Finset.card_le_card hs
    rw [Fin.card_Iio] at this
    unfold atLeast at h1
    omega
  · have hs : Finset.Iic j ⊆ (Finset.univ.filter fun i => t + 1 ≤ p i) := by
      intro i hi
      have := hle i j (Finset.mem_Iic.mp hi)
      simp only [Finset.mem_filter, Finset.mem_univ, true_and]
      omega
    have := Finset.card_le_card hs
    rw [Fin.card_Iic] at this
    unfold atLeast at h2
    omega

/-- Setting bit `30 - n` of a word whose bits from there down are clear adds `2^(30 - n)` to the word, read unsigned. -/
theorem toNat_setBit (n : Nat) (hn : n < 31) (t : BitVec 32) (h : 2 ^ (31 - n) ∣ t.toNat) :
    (t ||| (1#32 <<< (30 - n))).toNat = t.toNat + 2 ^ (30 - n) := by
  obtain ⟨a, ha⟩ := h
  have hb : (1#32 <<< (30 - n)).toNat = 2 ^ (30 - n) := by
    rw [BitVec.toNat_shiftLeft, Nat.shiftLeft_eq, show (1#32).toNat = 1 from rfl, Nat.one_mul]
    exact Nat.mod_eq_of_lt (Nat.pow_lt_pow_right (by decide) (by omega))
  rw [BitVec.toNat_or, hb, ha]
  exact (Nat.two_pow_add_eq_or_of_lt (Nat.pow_lt_pow_right (by decide) (by omega)) a).symm

/-- The same, read signed. -/
theorem toInt_setBit (n : Nat) (hn : n < 31) (t : BitVec 32) (h : 2 ^ (31 - n) ∣ t.toNat) :
    (t ||| (1#32 <<< (30 - n))).toInt = t.toInt + 2 ^ (30 - n) := by
  have e := toNat_setBit n hn t h
  have e3 : (2 : Int) ^ (30 - n) = ((2 ^ (30 - n) : Nat) : Int) := by push_cast; rfl
  have e2 : (2 : Nat) ^ (31 - n) = 2 ^ (30 - n) + 2 ^ (30 - n) := by
    rw [← Nat.mul_two, ← pow_succ]; congr 1; omega
  have e4 : (2 : Nat) ^ 31 = 2 ^ (31 - n) * 2 ^ n := by rw [← pow_add]; congr 1; omega
  rw [BitVec.toInt_eq_toNat_cond, BitVec.toInt_eq_toNat_cond, e, e3]
  obtain ⟨a, ha⟩ := h
  have hlt := t.isLt
  have hc : 0 < (2 : Nat) ^ (30 - n) := Nat.pow_pos (by decide)
  have key : t.toNat < 2 ^ 31 → t.toNat + 2 ^ (31 - n) ≤ 2 ^ 31 := fun hT => by
    rw [ha, e4] at hT
    have h1 : a + 1 ≤ 2 ^ n := Nat.lt_of_mul_lt_mul_left hT
    have h2 := Nat.mul_le_mul_left (2 ^ (31 - n)) h1
    rw [Nat.mul_add, Nat.mul_one] at h2
    rw [ha, e4]
    exact h2
  rw [e2] at key
  generalize 2 ^ (30 - n) = c at *
  generalize t.toNat = T at *
  split_ifs <;> push_cast <;> omega

/-- What holds of the carried word `t` after `n` trips: its low `31 - n` bits are clear, 192 keys reach it, and fewer
    reach it with `2^(31 - n)` added. -/
structure Found (k : Fin 2048 → Int) (n : Nat) (t : BitVec 32) : Prop where
  /-- The low bits are clear. -/
  low : 2 ^ (31 - n) ∣ t.toNat
  /-- At least 192 keys are at least the word. -/
  enough : 192 ≤ atLeast k t.toInt
  /-- Fewer than 192 keys are at least the word with the least undecided step added. -/
  few : atLeast k (t.toInt + 2 ^ (31 - n)) < 192

/-- The word the search starts from: 0 if 192 keys are at least 0, the least integer otherwise. -/
theorem found_zero (k : Fin 2048 → Int) (hlo : ∀ i, -2 ^ 31 ≤ k i) (hhi : ∀ i, k i < 2 ^ 31) :
    Found k 0 (if 192 ≤ atLeast k 0 then 0#32 else 0x80000000#32) := by
  by_cases h : 192 ≤ atLeast k 0
  · rw [if_pos h]
    refine ⟨by decide, h, ?_⟩
    rw [atLeast_of_lt k _ fun i => by have := hhi i; simpa using this]
    decide
  · rw [if_neg h]
    refine ⟨by decide, ?_, ?_⟩
    · rw [atLeast_of_le k _ fun i => by have := hlo i; simpa using this]
      decide
    · rw [show ((0x80000000#32 : BitVec 32).toInt + 2 ^ (31 - 0) : Int) = 0 by decide]
      omega

/-- One trip of the search: bit `30 - n` is set if 192 keys reach the word with it set. -/
theorem found_succ (k : Fin 2048 → Int) (n : Nat) (hn : n < 31) (t : BitVec 32) (h : Found k n t) :
    Found k (n + 1) (if 192 ≤ atLeast k (t ||| (1#32 <<< (30 - n))).toInt then t ||| (1#32 <<< (30 - n)) else t) := by
  have eN := toNat_setBit n hn t h.low
  have eI := toInt_setBit n hn t h.low
  have e1 : 31 - (n + 1) = 30 - n := by omega
  have e2 : (2 : Nat) ^ (31 - n) = 2 ^ (30 - n) * 2 := by rw [← pow_succ]; congr 1; omega
  have e3 : (2 : Int) ^ (31 - n) = 2 ^ (30 - n) + 2 ^ (30 - n) := by
    rw [show 31 - n = (30 - n) + 1 by omega, pow_succ, mul_two]
  have hd : 2 ^ (30 - n) ∣ t.toNat := (Dvd.intro _ e2.symm).trans h.low
  by_cases hc : 192 ≤ atLeast k (t ||| (1#32 <<< (30 - n))).toInt
  · rw [if_pos hc]
    refine ⟨by rw [e1, eN]; exact Nat.dvd_add hd (dvd_refl _), hc, ?_⟩
    rw [e1, eI, add_assoc, ← e3]
    exact h.few
  · rw [if_neg hc]
    refine ⟨by rw [e1]; exact hd, h.enough, ?_⟩
    rw [e1, ← eI]
    omega

/-- A property that holds before the trips and is kept by each of them holds after them. -/
theorem foldl_finRange {σ : Type} : ∀ {n : Nat} (g : Fin n → σ → σ) (P : Nat → σ → Prop) (init : σ), P 0 init →
    (∀ (i : Fin n) (x : σ), P i.val x → P (i.val + 1) (g i x)) →
    P n ((List.finRange n).foldl (fun acc i => g i acc) init)
  | 0, _, _, _, h0, _ => h0
  | n + 1, g, P, init, h0, hs => by
    rw [List.finRange_succ, List.foldl_cons, List.foldl_map]
    exact foldl_finRange (fun i => g i.succ) (fun j => P (j + 1)) (g 0 init) (hs 0 init h0)
      fun i x hx => hs i.succ x hx

/-- The word found after all the trips, its key undone, is the word in place 191 of the row sorted from the greatest
    key down: `π` names the sorted places' sources, `w` the row's words. -/
theorem found_last (w : Fin 2048 → BitVec 32) (π : Fin 2048 → Fin 2048) (hπ : Function.Bijective π)
    (hs : ∀ i j, i < j → (sortableKey (w (π j))).toInt ≤ (sortableKey (w (π i))).toInt) (t : BitVec 32)
    (h : Found (fun i => (sortableKey (w i)).toInt) 31 t) : sortableKey t = w (π 191) := by
  have e := atLeast_comp (fun i => (sortableKey (w i)).toInt) π hπ
  have hj : ((191 : Fin 2048)).val = 191 := rfl
  have h1 := h.enough
  have h2 := h.few
  rw [← e] at h1 h2
  have key := eq_of_atLeast (fun i => (sortableKey (w (π i))).toInt) hs 191 t.toInt (by omega)
    (by rw [hj]; simpa using Nat.lt_succ_iff.mp h2)
  rw [← BitVec.toInt_inj.mp key, sortableKey_sortableKey]

end Cert.Select

end
-- ==== Proof.ThrBlock.lean ====
/- The block the threshold kernel's body leaves at one grid point, at an index: every column of row `r` holds the
   word the bit search of `Select.lean` finds in row `r` of the 64 by 2048 input block, its key undone. -/
module

public import proofs.«01_k».proof.Proof.Select
public import proofs.«01_k».proof.Proof.Gen.Threshold.Frame
public import Idealize.ShloMosaic.Lib.Pointwise
public import Idealize.ShloMosaic.Lib.NatWordsOrder
public import Idealize.ShloMosaic.Lib.Pipeline.ValueKit

@[expose] public section

set_option maxRecDepth 16384

noncomputable section

namespace Cert.Threshold.Search

open Cert.Threshold Cert.Threshold.Gen Cert.Select Idealize.ShloMosaic

/-- The f32 pattern of one. -/
theorem word_one : (Scalar.ofBits .f32 0x3F800000#32 : Bits .f32) = Bits.f32OfNat 1 := by
  rw [Bits.f32OfNat_eq _ (by decide)]; decide

/-- The f32 pattern of zero. -/
theorem word_zero : (Scalar.ofBits .f32 0x00000000#32 : Bits .f32) = Bits.f32OfNat 0 := by
  rw [Bits.f32OfNat_eq _ (by decide)]; decide

/-- The f32 pattern of 192. -/
theorem word_192 : (Scalar.ofBits .f32 0x43400000#32 : Bits .f32) = Bits.f32OfNat 192 := by
  rw [Bits.f32OfNat_eq _ (by decide)]; decide

/-- A word whose sign selects between itself and itself with its lower 31 bits flipped is its sort key. -/
theorem select_key (w : BitVec 32) : Scalar.select (IntOp.cmpi .slt w 0#32) (IntOp.xori w 0x7FFFFFFF#32) w = sortableKey w := by
  unfold IntOp.cmpi IntOp.xori
  have e : w.slt 0#32 = w.msb := by rw [BitVec.slt_zero_eq_msb]
  cases h : w.msb
  · rw [sortableKey_of_msb_false w h]
    simp only [e, h]
    rfl
  · rw [sortableKey_of_msb_true w h]
    simp only [e, h]
    rfl

/-- The keys the kernel computes: each word's sort key. -/
theorem keys_apply (x : Vec Bits S64x2048 .f32) (r : Fin 64) (u : Fin 2048) :
    k0_pay1 x (ix2 r u) = sortableKey (x (ix2 r u)) := by
  unfold k0_pay1
  pointwise
  exact select_key _

/-- The indicator the kernel sums: one where a key is at least its row's candidate, zero elsewhere. -/
def indicator (K : IVec S64x2048 32) (c : IVec S64x1 32) : FVec Bits S64x2048 .f32 :=
  select (cmpi .sge K (broadcastTo S64x2048 c broadcasts_S64x1_S64x2048))
    (broadcast S64x2048 (Scalar.ofBits .f32 0x3F800000#32 : Bits .f32)) (broadcast S64x2048 (Scalar.ofBits .f32 0x00000000#32 : Bits .f32))

/-- The kernel's test of a candidate, row by row: the number of keys at least the candidate against 192. -/
def test (K : IVec S64x2048 32) (c : IVec S64x1 32) : IVec S64x1 1 :=
  cmpf .oge (shapeCast S64x1 (multiReduction .add [1] S64 (indicator K c) 0x00000000#32 reduces_S64x2048_S64 (.inl rfl) rfl : FVec Bits S64 .f32)
    shapeCasts_S64_S64x1) (broadcast S64x1 (Scalar.ofBits .f32 0x43400000#32 : Bits .f32))

/-- The indicator at an index. -/
theorem indicator_apply (K : IVec S64x2048 32) (c : IVec S64x1 32) (r : Fin 64) (u : Fin 2048) :
    indicator K c (ix2 r u) = Bits.f32OfNat (if (c (ix2 r 0)).toInt ≤ (K (ix2 r u)).toInt then 1 else 0) := by
  unfold indicator
  pointwise
  show Scalar.select (BitVec.ofBool (decide ((c (ix2 r 0)).toInt ≤ (K (ix2 r u)).toInt))) (Scalar.ofBits .f32 0x3F800000#32 : Bits .f32)
    (Scalar.ofBits .f32 0x00000000#32 : Bits .f32) = _
  rw [word_one, word_zero]
  by_cases h : (c (ix2 r 0)).toInt ≤ (K (ix2 r u)).toInt
  · rw [if_pos h, decide_eq_true h]; rfl
  · rw [if_neg h, decide_eq_false h]; rfl

/-- A sum over the indices that reduce to row `r` is the sum over the row's columns. -/
theorem sum_row (n : S64x2048.Idx → Nat) (r : Fin 64) :
    (Bits.reduceFiber reduces_S64x2048_S64 (ix1 r)).sum n = ∑ u : Fin 2048, n (ix2 r u) := by
  have hd : ∀ i : S64x2048.Idx, (Shape.Reduces.drop reduces_S64x2048_S64 i 0).val = (i 0).val := fun i =>
    Shape.Reduces.drop_apply_val_of_eq reduces_S64x2048_S64 i 0 0
  symm
  refine Finset.sum_bij (fun u _ => (ix2 r u : S64x2048.Idx)) ?_ ?_ ?_ ?_
  · intro u _
    unfold Bits.reduceFiber
    rw [Finset.mem_filter]
    refine ⟨Finset.mem_univ _, funext fun b => ?_⟩
    fin_cases b
    exact Fin.ext (hd (ix2 r u))
  · intro u _ v _ h
    exact congrFun h 1
  · intro i hi
    unfold Bits.reduceFiber at hi
    rw [Finset.mem_filter] at hi
    refine ⟨i 1, Finset.mem_univ _, ?_⟩
    have h0 : i 0 = r := Fin.ext ((hd i).symm.trans (congrArg (fun j : S64.Idx => (j 0).val) hi.2))
    rw [← h0]
    exact (eq_ix2 i).symm
  · intro u _
    rfl

/-- The kernel's test of a candidate on row `r`: whether at least 192 keys of the row, read signed, are at least the
    candidate. -/
theorem test_apply (K : IVec S64x2048 32) (c : IVec S64x1 32) (r : Fin 64) :
    test K c (ix2 r 0) = BitVec.ofBool (decide (192 ≤ atLeast (fun u : Fin 2048 => (K (ix2 r u)).toInt) (c (ix2 r 0)).toInt)) := by
  have hle := atLeast_le (fun u : Fin 2048 => (K (ix2 r u)).toInt) (c (ix2 r 0)).toInt
  have hsum : (Bits.reduceFiber reduces_S64x2048_S64 (ix1 r)).sum
      (fun i : S64x2048.Idx => if (c (ix2 (i 0) 0)).toInt ≤ (K i).toInt then 1 else 0)
      = atLeast (fun u : Fin 2048 => (K (ix2 r u)).toInt) (c (ix2 r 0)).toInt := by
    rw [sum_row]
    exact (Finset.card_filter _ _).symm
  have hred : (multiReduction .add [1] S64 (indicator K c) 0x00000000#32 reduces_S64x2048_S64 (.inl rfl) rfl : FVec Bits S64 .f32) (ix1 r)
      = Bits.f32OfNat (atLeast (fun u : Fin 2048 => (K (ix2 r u)).toInt) (c (ix2 r 0)).toInt) := by
    rw [← hsum]
    refine Bits.multiReduction_add_nat [1] reduces_S64x2048_S64 (indicator K c) (ix1 r) _ ?_ (by rw [hsum]; omega)
    intro i _
    obtain ⟨a, b, rfl⟩ : ∃ (a : Fin 64) (b : Fin 2048), i = ix2 a b := ⟨i 0, i 1, eq_ix2 i⟩
    rw [indicator_apply]
    exact Bits.natOfF32?_f32OfNat _ (by split_ifs <;> decide)
  unfold test
  generalize (multiReduction .add [1] S64 (indicator K c) 0x00000000#32 reduces_S64x2048_S64 (.inl rfl) rfl : FVec Bits S64 .f32) = y at hred
  pointwise [hred]
  exact (congrArg (Bits.cmpf32 .oge _) word_192).trans (Bits.cmpf32_oge_nat (by omega) (by decide))

/-- The keys of row `r` of a block, as integers. -/
abbrev rowKeys (x : Vec Bits S64x2048 .f32) (r : Fin 64) : Fin 2048 → Int := fun u => (sortableKey (x (ix2 r u))).toInt

/-- The words the loop starts from, on row `r`. -/
theorem start_apply (x : Vec Bits S64x2048 .f32) (r : Fin 64) :
    k0_pay2 x (ix2 r 0) = if 192 ≤ atLeast (rowKeys x r) 0 then 0#32 else 0x80000000#32 := by
  show Scalar.select (test (k0_pay1 x) (broadcast S64x1 0#32) (ix2 r 0)) 0#32 0x80000000#32 = _
  rw [test_apply]
  simp only [keys_apply]
  show Scalar.select (BitVec.ofBool (decide (192 ≤ atLeast (rowKeys x r) 0))) 0#32 0x80000000#32 = _
  by_cases h : 192 ≤ atLeast (rowKeys x r) 0
  · rw [if_pos h, decide_eq_true h]; rfl
  · rw [if_neg h, decide_eq_false h]; rfl

/-- The loop makes 31 trips. -/
theorem trips_eq : k0_t1_loop.trips = 31 := by decide +kernel

/-- The bit trip `k` tries. -/
theorem bit_eq : ∀ k : Fin k0_t1_loop.trips, Scalar.shli 1#32 (Scalar.subi 30#32 (Scf.iv 0#32 1#32 k)) = 1#32 <<< (30 - k.val) := by
  decide +kernel

/-- One trip of the loop, on row `r`. -/
theorem trip_apply (x : Vec Bits S64x2048 .f32) (k : Fin k0_t1_loop.trips) (t : IVec S64x1 32) (r : Fin 64) :
    k0_pay3 x k t (ix2 r 0) = if 192 ≤ atLeast (rowKeys x r) (t (ix2 r 0) ||| (1#32 <<< (30 - k.val))).toInt
      then t (ix2 r 0) ||| (1#32 <<< (30 - k.val)) else t (ix2 r 0) := by
  show Scalar.select (test (k0_pay1 x) (ori t (broadcast S64x1 (Scalar.shli 1#32 (Scalar.subi 30#32 (Scf.iv 0#32 1#32 k))))) (ix2 r 0))
    (t (ix2 r 0) ||| Scalar.shli 1#32 (Scalar.subi 30#32 (Scf.iv 0#32 1#32 k))) (t (ix2 r 0)) = _
  rw [bit_eq, test_apply]
  simp only [keys_apply]
  show Scalar.select (BitVec.ofBool (decide (192 ≤ atLeast (rowKeys x r) (t (ix2 r 0) ||| (1#32 <<< (30 - k.val))).toInt))) _ _ = _
  by_cases h : 192 ≤ atLeast (rowKeys x r) (t (ix2 r 0) ||| (1#32 <<< (30 - k.val))).toInt
  · rw [if_pos h, decide_eq_true h]; rfl
  · rw [if_neg h, decide_eq_false h]; rfl

/-- The words after all the trips. -/
def searched (x : Vec Bits S64x2048 .f32) : IVec S64x1 32 :=
  Scf.fold (n := k0_t1_loop.trips) (fun k t => k0_pay3 x k t) (k0_pay2 x)

/-- After all the trips the word of row `r` is what the search over the row's keys finds. -/
theorem searched_found (x : Vec Bits S64x2048 .f32) (r : Fin 64) : Found (rowKeys x r) 31 (searched x (ix2 r 0)) := by
  have h := foldl_finRange (fun (k : Fin k0_t1_loop.trips) (t : IVec S64x1 32) => k0_pay3 x k t)
    (fun n t => Found (rowKeys x r) n (t (ix2 r 0))) (k0_pay2 x) (by
      rw [start_apply]
      exact found_zero _ (fun i => BitVec.le_toInt _) (fun i => BitVec.toInt_lt))
    (fun k t ht => by
      rw [trip_apply]
      exact found_succ _ k.val (lt_of_lt_of_eq k.isLt trips_eq) _ ht)
  refine Eq.mp (congrArg (fun n => Found (rowKeys x r) n (searched x (ix2 r 0))) trips_eq) ?_
  unfold searched
  rw [Scf.fold_eq]
  exact h

/-- The stored block: the found word's key undone, in every column. -/
theorem stored_apply (t : IVec S64x1 32) (r : Fin 64) (c : Fin 128) :
    (k0_pay4 t : FVec Bits S64x128 .f32) (ix2 r c) = sortableKey (t (ix2 r 0)) := by
  unfold k0_pay4
  pointwise
  exact select_key _

/-- The block the body leaves at a grid point. -/
theorem out_eq (c : Dev nD) (i : grid0.Coords) (arg1 : Memref sig .tc .vmem S64x2048 .f32) (harg1 : arg1.IsWhole)
    (arg2 : Memref sig .tc .vmem S64x128 .f32) (harg2 : arg2.IsWhole) (x : Vec Bits S64x2048 .f32) :
    out0_A_1 c i arg1 harg1 arg2 harg2 x = (k0_pay4 (searched x) : FVec Bits S64x128 .f32) := by
  unfold out0_A_1
  rw [View.read_writes_eq_canon _ _ _ (cover0_A_1 c i arg1 harg1 arg2 harg2 x)]
  unfold kernelRun0_A
  dsimp only
  refine (View.canon_cons_unit_zero (Val := Elt Bits) (e := .f32) (S := S64x128) (off := ![0, 0]) (by decide) inb_S64x128_S64x128_0_0
    (k0_pay4 (F := Bits) (kernelRun0_A.sl.r c arg1 harg1 x)) []).trans ?_
  unfold kernelRun0_A.sl.r searched
  rw [View.readAt_eq_ld, harg1.read_unread, View.ld_unit_zero (Val := Elt Bits) (e := .f32) (S := S64x2048) (off := ![0, 0]) (by decide)]

/-- The block the body leaves at a grid point, at an index. -/
theorem out_apply (c : Dev nD) (i : grid0.Coords) (arg1 : Memref sig .tc .vmem S64x2048 .f32) (harg1 : arg1.IsWhole)
    (arg2 : Memref sig .tc .vmem S64x128 .f32) (harg2 : arg2.IsWhole) (x : Vec Bits S64x2048 .f32) (r : Fin 64) (u : Fin 128) :
    out0_A_1 c i arg1 harg1 arg2 harg2 x (ix2 r u) = sortableKey (searched x (ix2 r 0)) := by
  rw [out_eq]
  exact stored_apply _ r u

end Cert.Threshold.Search

end
-- ==== Proof.ThrArrays.lean ====
/- The threshold kernel's run: its result array as a function of its argument. Row `g` of the 1024 by 128 result belongs
   to batch entry `g / 16` and head `g % 16` of the argument, and every column of it holds the word the bit search finds
   among that head's 2048 scores. -/
module

public import proofs.«01_k».proof.Proof.ThrBlock
public import Idealize.ShloMosaic.Lib.Pipeline.ValueKit

@[expose] public section

set_option maxRecDepth 16384

noncomputable section

namespace Cert.Threshold.Arrays

open Cert.Threshold Cert.Threshold.Gen Cert.Threshold.Search Cert.Select
open Idealize.ShloMosaic Idealize.ShloMosaic.TcCoe Idealize.SL.Sem
open Idealize.ShloMosaic.Pipeline (Dat)

variable (m : (ℓ : Loc nD τ sig) → Buf (Elt Bits) ℓ) (ρ : Dev nD → PrngReg)

/-- The region finds the argument reshaped. -/
theorem V_main_v0 (c : Dev nD) : V m c main_v0 = shapeCast _ (m ((c : Thread nD τ).loc main_arg0)) shapeCasts_S64x16x2048_S1024x2048 := by
  show StableHlo.after hostOps0 (fun b => m (c, b)) (Proc.devRef .tc main_v0) = _
  after_results
  rfl

/-- Window 0's block index at point `t`. -/
theorem index0 : ∀ t : Fin cfg0.N, win0_0.index t = ![t.val, 0] := (by decide +kernel : ∀ t : Fin grid0.N, win0_0.index t = ![t.val, 0])
/-- Window 1's block index at point `t`. -/
theorem index1 : ∀ t : Fin cfg0.N, win0_1.index t = ![t.val, 0] := (by decide +kernel : ∀ t : Fin grid0.N, win0_1.index t = ![t.val, 0])

/-- The scores of row `g` of the flattened argument. -/
def rowWords (x : (⟨S64x16x2048, .f32⟩ : BufTy).Contents (Elt Bits)) (g : Fin 1024) : Fin 2048 → BitVec 32 :=
  fun u => x (ix3 (⟨g.val / 16, by omega⟩ : Fin 64) (⟨g.val % 16, by omega⟩ : Fin 16) u)

/-- Window 0's block at point `t`: its row `r` is row `64 t + r` of the flattened argument. -/
theorem block0 (c : Dev nD) (t : Fin cfg0.N) (r : Fin 64) (u : Fin 2048) (g : Fin 1024) (hg : g.val = 64 * t.val + r.val) :
    iblk m c 0 t (ix2 r u) = rowWords (m ((c : Thread nD τ).loc main_arg0)) g u := by
  have e := index0 t
  have hb : ((win0_0.blk t).view.emb (ix2 r u)) = (ix2 g u) := by
    blk_ext [e, hg]
  blk_simp [iblk]
  rw [hb, V_main_v0]
  exact shapeCast_apply _ _ _ _ (by
    refine (Shape.rowMajor_val_three _).trans (Eq.trans ?_ (Shape.rowMajor_val_two _).symm)
    show (g.val / 16 * 16 + g.val % 16) * 2048 + u.val = g.val * 2048 + u.val
    omega)

/-- An array holds the thresholds of a row's scores: every column of row `g` is the undone key of a word the search
    finds among that row's keys. -/
def Holds (x : (⟨S64x16x2048, .f32⟩ : BufTy).Contents (Elt Bits)) (a : (⟨S1024x128, .f32⟩ : BufTy).Contents (Elt Bits)) : Prop :=
  ∀ (g : Fin 1024) (u : Fin 128), ∃ t : BitVec 32,
    Found (fun i => (sortableKey (rowWords x g i)).toInt) 31 t ∧ a (ix2 g u) = sortableKey t

/-- The result array after the run: row `g` is row `g % 64` of the block of point `g / 64`. -/
def found (c : Dev nD) : (⟨S1024x128, .f32⟩ : BufTy).Contents (Elt Bits) := fun y =>
  sortableKey (searched (fun i : S64x2048.Idx => rowWords (m ((c : Thread nD τ).loc main_arg0))
    (⟨64 * ((y 0).val / 64) + (i 0).val, by have h0 : (y 0).val < 1024 := (y 0).isLt; have h1 : (i 0).val < 64 := (i 0).isLt; omega⟩ : Fin 1024) (i 1))
    (ix2 (⟨(y 0).val % 64, by omega⟩ : Fin 64) 0))

/-- The result array is made of the blocks. -/
theorem final1 (c : Dev nD) : (dats m 0 c).arrAt 1 cfg0.N = found m c := by
  refine (dats m 0 c).arrAt_eq_of_covers 1 _ (by decide +kernel) fun t hf y => ?_
  have e := index1 t
  have ht : t.val < 16 := lt_of_lt_of_eq t.isLt N_0
  have h0 : (y 0).val < 64 := (y 0).isLt
  have h1 : (y 1).val < 128 := (y 1).isLt
  have hb : ((win0_1.blk t).view.emb y) = (ix2 (⟨64 * t.val + (y 0).val, by omega⟩ : Fin 1024) (y 1 : Fin 128)) := by
    blk_ext [e]
  blk_simp
  rw [hb, after0_1]
  unfold outsAt0
  refine ((congrArg _ (eq_ix2 y)).trans (out_apply c _ _ _ _ _ (iblk m c 0 t) (y 0) (y 1))).trans ?_
  have hx : (iblk m c 0 t : Vec Bits S64x2048 .f32) = fun i : S64x2048.Idx => rowWords (m ((c : Thread nD τ).loc main_arg0))
      (⟨64 * t.val + (i 0).val, by have h1 : (i 0).val < 64 := (i 0).isLt; omega⟩ : Fin 1024) (i 1) := by
    funext i
    obtain ⟨r, u, rfl⟩ : ∃ (r : Fin 64) (u : Fin 2048), i = ix2 r u := ⟨i 0, i 1, eq_ix2 i⟩
    exact block0 m c t r u _ rfl
  rw [hx]
  have k1 : (64 * t.val + (y 0).val) / 64 = t.val := by omega
  have k2 : (64 * t.val + (y 0).val) % 64 = (y 0).val := by omega
  show sortableKey (searched _ (ix2 (y 0 : Fin 64) 0)) = sortableKey (searched (fun i : S64x2048.Idx => rowWords _ (⟨64 * ((64 * t.val + (y 0).val) / 64) + (i 0).val, _⟩ : Fin 1024) (i 1))
    (ix2 (⟨(64 * t.val + (y 0).val) % 64, _⟩ : Fin 64) 0))
  simp only [k1, k2]
  rfl

/-- The result array holds the thresholds. -/
theorem holds (c : Dev nD) : Holds (m ((c : Thread nD τ).loc main_arg0)) (found m c) := by
  intro g u
  refine ⟨_, ?_, rfl⟩
  refine cast (congrArg (fun f : Fin 2048 → Int => Found f 31 _) ?_) (searched_found _ _)
  funext i
  refine congrArg (fun j : Fin 1024 => (sortableKey (rowWords (m ((c : Thread nD τ).loc main_arg0)) j i)).toInt) (Fin.ext ?_)
  show 64 * (g.val / 64) + g.val % 64 = g.val
  omega

/-- The run: the result array by name, the argument unchanged. -/
theorem run : θ_run defs (onTc (τ := τ) (main (F := Bits))) ⟨m, fun _ => 0, ρ⟩ fun r => ∀ c : Dev nD,
      r.2.mem ((c : Thread nD τ).loc main_v1) = found m c
      ∧ r.2.mem ((c : Thread nD τ).loc main_arg0) = m ((c : Thread nD τ).loc main_arg0) :=
  (θ_run defs _ _).mono (fun r h c => ⟨((h c).1 1).trans (final1 m c),
      ((h c).2 main_arg0 (Pipeline.mem_restRefs_of main_arg0 (by decide) (by decide))).trans (V_main_arg0 m c)⟩)
    (run_main m ρ)

end Cert.Threshold.Arrays

end
-- ==== Proof.ThrRef.lean ====
/- The threshold's reference at an index: every column of row `g` holds the word in place 191 of row `g`'s 2048 scores
   sorted from the greatest down; and an array that `Holds` the thresholds is that array. -/
module

public import proofs.«01_k».proof.Proof.ThrArrays
public import proofs.«01_k».proof.Proof.Gen.ThresholdReference.Read
public import proofs.«01_k».proof.Proof.Gen.ThresholdReference.Run
public import Idealize.ShloMosaic.Lib.Pointwise
public import Idealize.ShloMosaic.Lib.WordCmp

@[expose] public section

set_option maxRecDepth 16384

noncomputable section

namespace Cert.ThresholdReference.Sorted

open Cert.ThresholdReference Cert.ThresholdReference.Gen Cert.ThresholdReference.Read Cert.Select
open Idealize.ShloMosaic Idealize.ShloMosaic.TcCoe Idealize.SL.Sem

/-- The order the reference sorts by: one word's key is greater than the other's. -/
def before (w : Fin 2048 → BitVec 32) : Fin 2048 → Fin 2048 → Bool :=
  fun k k' => FloatOps.cmpfTotal (F := Bits) (φ := .f32) .gt (w k) (w k') == 1#1

/-- That order in the keys read as integers. -/
theorem before_eq (w : Fin 2048 → BitVec 32) (k k' : Fin 2048) :
    before w k k' = decide ((sortableKey (w k')).toInt < (sortableKey (w k)).toInt) := by
  unfold before
  rw [cmpfTotal_f32_eq_cmpi_sortableKey]
  show (BitVec.ofBool (decide ((sortableKey (w k')).toInt < (sortableKey (w k)).toInt)) == 1#1) = _
  cases decide ((sortableKey (w k')).toInt < (sortableKey (w k)).toInt) <;> rfl

/-- The sorted row descends in the keys. -/
theorem sorted_descends (w : Fin 2048 → BitVec 32) (i j : Fin 2048) (h : i < j) :
    (sortableKey (w (sortedFrom (before w) j))).toInt ≤ (sortableKey (w (sortedFrom (before w) i))).toInt := by
  have := sortedFrom_noInversion (before w) (before w)
    (fun a b h => by rw [before_eq, decide_eq_true_eq] at h; rw [before_eq, decide_eq_false_iff_not]; omega)
    (fun _ _ h => h)
    (fun a b c h h' => by
      rw [before_eq, decide_eq_false_iff_not] at h h' ⊢
      omega) i j h
  rw [before_eq, decide_eq_false_iff_not] at this
  omega

/-- Every row of the scores sorted from the greatest down. -/
def sortedRows (x : (⟨S64x16x2048, .f32⟩ : BufTy).Contents (Elt Bits)) : (⟨S64x16x2048, .f32⟩ : BufTy).Contents (Elt Bits) :=
  fun j => x (Shape.Idx.along (s := S64x16x2048) j 2 (sortedFrom (fun k k' => FloatOps.cmpfTotal (F := Bits) (φ := .f32) .gt
    (x (Shape.Idx.along (s := S64x16x2048) j 2 k)) (x (Shape.Idx.along (s := S64x16x2048) j 2 k')) == 1#1) (j 2)))

/-- The sorted rows at an index. -/
theorem sortedRows_apply (x : (⟨S64x16x2048, .f32⟩ : BufTy).Contents (Elt Bits)) (b : Fin 64) (h : Fin 16) (j : Fin 2048) :
    sortedRows x (ix3 b h j) = x (ix3 b h (sortedFrom (before fun u => x (ix3 b h u)) j)) := by
  have ha : ∀ k : Fin 2048, Shape.Idx.along (s := S64x16x2048) (ix3 b h j) 2 k = ix3 b h k := fun k =>
    funext fun a => by match a with
      | ⟨0, _⟩ => rfl
      | ⟨1, _⟩ => rfl
      | ⟨2, _⟩ => rfl
  unfold sortedRows
  refine (congrArg x (ha _)).trans ?_
  refine congrArg (fun R : Fin 2048 → Fin 2048 → Bool => x (ix3 b h (sortedFrom R j))) ?_
  funext k k'
  unfold before
  exact congrArg₂ (fun p q => FloatOps.cmpfTotal (F := Bits) (φ := .f32) .gt (x p) (x q) == 1#1) (ha k) (ha k')

/-- The reference's greatest 192 of each row are the first 192 of the sorted row. -/
theorem values_eq (x : (⟨S64x16x2048, .f32⟩ : BufTy).Contents (Elt Bits)) :
    val_main_values (F := Bits) x = extractStridedSlice S64x16x192 (fun _ => 0) (sortedRows x) sliceFits_S64x16x2048_S64x16x192 := rfl

/-- The reference's greatest 192 of each row, at an index. -/
theorem values_apply (x : (⟨S64x16x2048, .f32⟩ : BufTy).Contents (Elt Bits)) (b : Fin 64) (h : Fin 16) (j : Fin 192) :
    val_main_values (F := Bits) x (ix3 b h j) = x (ix3 b h (sortedFrom (before fun u => x (ix3 b h u)) ⟨j.val, by omega⟩)) := by
  refine Eq.trans ?_ (sortedRows_apply x b h ⟨j.val, by omega⟩)
  rw [values_eq]
  generalize sortedRows x = y
  exact extractStridedSlice_apply (fun _ => 0) y sliceFits_S64x16x2048_S64x16x192 (ix3 b h j) (ix3 b h (⟨j.val, by omega⟩ : Fin 2048))
    (fun a => match a with
    | ⟨0, _⟩ => (Nat.zero_add _).symm
    | ⟨1, _⟩ => (Nat.zero_add _).symm
    | ⟨2, _⟩ => (Nat.zero_add _).symm)

/-- The reference at an index: the word in place 191 of the sorted row. -/
theorem out_apply (x : (⟨S64x16x2048, .f32⟩ : BufTy).Contents (Elt Bits)) (g : Fin 1024) (u : Fin 128) :
    val_main_v2 (F := Bits) x (ix2 g u)
      = Cert.Threshold.Arrays.rowWords x g (sortedFrom (before (Cert.Threshold.Arrays.rowWords x g)) 191) := by
  rw [val_main_v2_apply, val_main_v1_apply, val_main_v0_apply]
  have e : idx_main_v0 (idx_main_v1 (idx_main_v2 (ix2 g u)))
      = ix3 (⟨g.val / 16, by omega⟩ : Fin 64) (⟨g.val % 16, by omega⟩ : Fin 16) (191 : Fin 192) := funext fun a => by
    match a with
    | ⟨0, _⟩ => exact Fin.ext (by show (g.val * 1 + 0) / 16 = g.val / 16; omega)
    | ⟨1, _⟩ => exact Fin.ext (by show (g.val * 1 + 0) / 1 % 16 = g.val % 16; omega)
    | ⟨2, _⟩ => rfl
  rw [e, values_apply]
  rfl

/-- An array that holds the thresholds is the reference's result. -/
theorem eq_of_holds (x : (⟨S64x16x2048, .f32⟩ : BufTy).Contents (Elt Bits)) (a : (⟨S1024x128, .f32⟩ : BufTy).Contents (Elt Bits))
    (h : Cert.Threshold.Arrays.Holds x a) : a = val_main_v2 (F := Bits) x := by
  funext y
  obtain ⟨g, u, rfl⟩ : ∃ (g : Fin 1024) (u : Fin 128), y = ix2 g u := ⟨y 0, y 1, eq_ix2 y⟩
  obtain ⟨t, ht, hy⟩ := h g u
  rw [hy, out_apply]
  exact found_last _ (sortedFrom (before (Cert.Threshold.Arrays.rowWords x g))) ⟨sortedFrom_injective _, sortedFrom_surjective _⟩
    (sorted_descends _) t ht

variable (m : (ℓ : Loc nD τ sig) → Buf (Elt Bits) ℓ) (ρ : Dev nD → PrngReg)

/-- The run: the result as a function of the argument, the argument unchanged. -/
theorem run : θ_run defs (onTc (τ := τ) (main (F := Bits))) ⟨m, fun _ => 0, ρ⟩ fun r => ∀ c : Dev nD,
      r.2.mem ((c : Thread nD τ).loc main_v2) = val_main_v2 (F := Bits) (m ((c : Thread nD τ).loc main_arg0))
      ∧ r.2.mem ((c : Thread nD τ).loc main_arg0) = m ((c : Thread nD τ).loc main_arg0) :=
  (θ_run defs _ _).mono (fun r h c => ⟨(h c).1.trans (val_main_v2_eq _), (h c).2⟩) (Value.run (F := Bits) m ρ)

end Cert.ThresholdReference.Sorted

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ThresholdReference.Run
public import proofs.«01_k».proof.Proof.Gen.ThresholdReference.Read
public import proofs.«01_k».proof.Proof.Gen.Threshold
public import proofs.«01_k».proof.Proof.Gen.Threshold.Skeleton
public import proofs.«01_k».proof.Proof.Gen.Threshold.Launch
public import proofs.«01_k».proof.Proof.Gen.Threshold.Points
public import proofs.«01_k».proof.Proof.Gen.Threshold.Loops
public import proofs.«01_k».proof.Proof.Gen.Threshold.Frame
public import proofs.«01_k».proof.Proof.Gen.ThresholdReference
public import proofs.«01_k».proof.Proof.Arrays
public import proofs.«01_k».proof.Proof.RefRead
public import proofs.«01_k».proof.Proof.ThrArrays
public import proofs.«01_k».proof.Proof.ThrRef
public import Idealize.ShloMosaic.Adequacy
public import Idealize.ShloMosaic.Init

@[expose] public section

noncomputable section

namespace Cert.Proof

open Idealize.ShloMosaic Idealize.ShloMosaic.TcCoe Idealize.SL.Sem Cert.Math

/-- The attention call as it is run ends, leaves its arguments unchanged and every counter at zero. -/
theorem frame_kernel : Cert.quiescent_Kernel := fun m ρ _ => Cert.Kernel.Gen.frame m ρ

/-- So does its reading over the extended reals. -/
theorem frame_kernelIdeal : Cert.quiescent_KernelIdeal := fun m ρ _ => Cert.KernelIdeal.Gen.frame m ρ

/-- So does the reference, which declares no semaphore. -/
theorem frame_referenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The reading over the extended reals is the program as it is run, operation for operation. -/
theorem preserves : Cert.preserves_Kernel_KernelIdeal := trivial

/-- Over the extended reals the attention call and the reference end with equal results: the attention step of the
    arguments, and the kept scores with the probability mass added. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Stages.run m' ρ')
  · obtain ⟨e0, e1, e2, e3, e4, e5, e6, e7⟩ := hagree c
    rw [e0, e1, e2, e3, e4, e5, e6]
  · obtain ⟨e0, e1, e2, e3, e4, e5, e6, e7⟩ := hagree c
    rw [e0, e1, e3, e4, e7]

/-- The threshold call ends, leaves its argument unchanged and every counter at zero. -/
theorem frame_threshold : Cert.quiescent_Threshold := fun m ρ _ => Cert.Threshold.Gen.frame m ρ

/-- So does its reference, which declares no semaphore. -/
theorem frame_thresholdReference : Cert.quiescent_ThresholdReference := fun m ρ _ =>
  (θ_run Cert.ThresholdReference.defs _ _).mono (fun r h => ⟨fun c => (h c).2,
      Idealize.ShloMosaic.sem_eq_zero_of_no_sems (by decide) r.2⟩)
    (Cert.ThresholdReference.Sorted.run m ρ)

/-- Word for word, the threshold call and its reference end with equal results: in every column of a row the 192nd of
    the row's scores from the greatest down. -/
theorem bitexact : Cert.bitexact_Threshold_ThresholdReference := by
  intro m ρ m' ρ' _ hagree
  refine ⟨_, Cert.Threshold.Arrays.run m ρ, ?_⟩
  refine (θ_run Cert.ThresholdReference.defs _ _).mono (fun _ h c => ⟨(h c).1.trans ?_, (h c).2⟩)
    (Cert.ThresholdReference.Sorted.run m' ρ')
  rw [hagree c]
  exact (Cert.ThresholdReference.Sorted.eq_of_holds _ _ (Cert.Threshold.Arrays.holds m c)).symm

theorem claim : Cert.Claim := ⟨Cert.Kernel.Gen.facts, Cert.KernelIdeal.Gen.facts, Cert.ReferenceIdeal.Gen.facts,
  Cert.Threshold.Gen.facts, Cert.ThresholdReference.Gen.facts, frame_kernel, frame_kernelIdeal, frame_referenceIdeal,
  frame_threshold, frame_thresholdReference, preserves, algebraic, bitexact⟩

end Cert.Proof

end
